-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_k_below_inf [hPre_k_below_inf : Cert.Pre_k_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_k_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_k_below_inf [hPre_k_below_inf : Cert.Pre_k_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_k_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_k_below_inf [hKernelIdeal : Cert.KernelIdeal.Facts] [hPre_k_below_inf : Cert.Pre_k_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_k_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_k_below_inf [hReferenceIdeal : Cert.ReferenceIdeal.Facts] [hPre_k_below_inf : Cert.Pre_k_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_k_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)
  ∧ IdealRules.named_const.Statement Cert.KernelIdeal.κ "sqrt_d" .f32 0x413504F3#32 ((Real.sqrt 128 : ℝ) : EReal)
  ∧ IdealRules.named_const.Statement Cert.KernelIdeal.κ "mask" .f32 0xF149F2CA#32 ⊥

def algebraic_KernelIdeal_ReferenceIdeal_pre_k_below_inf [hKernelIdeal : Cert.KernelIdeal.Facts] [hReferenceIdeal : Cert.ReferenceIdeal.Facts] [hPre_k_below_inf : Cert.Pre_k_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_k_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_k_below_inf : Cert.Pre_k_below_inf.Facts),
    quiescent_Kernel (hKernel := hKernel)
    ∧ quiescent_KernelIdeal (hKernelIdeal := hKernelIdeal)
    ∧ quiescent_KernelIdeal_pre_k_below_inf (hKernelIdeal := hKernelIdeal) (hPre_k_below_inf := hPre_k_below_inf)
    ∧ quiescent_ReferenceIdeal (hReferenceIdeal := hReferenceIdeal)
    ∧ quiescent_ReferenceIdeal_pre_k_below_inf (hReferenceIdeal := hReferenceIdeal) (hPre_k_below_inf := hPre_k_below_inf)
    ∧ preserves_Kernel_KernelIdeal
    ∧ algebraic_KernelIdeal_ReferenceIdeal_pre_k_below_inf (hKernelIdeal := hKernelIdeal) (hReferenceIdeal := hReferenceIdeal) (hPre_k_below_inf := hPre_k_below_inf)
-- ==== Pre_k_below_inf.lean ====
abbrev S4096x8x128 : Shape := ⟨3, ![4096, 8, 128]⟩
abbrev S5 : Shape := ⟨1, ![5]⟩
abbrev S1024x16 : Shape := ⟨2, ![1024, 16]⟩
abbrev S_ : Shape := ⟨0, ![]⟩

class Facts : Prop where
  bcast_S_S4096x8x128 : S_.BroadcastsInDim S4096x8x128 (![] : Fin 0 → Fin S4096x8x128.rank)

variable [Facts]

def fn {F : FTy → Type} [FloatOps F] (main_arg0 : FVec F S4096x8x128 .f32) (main_arg1 : FVec F S4096x8x128 .f32) (main_arg2 : FVec F S4096x8x128 .f32) (main_arg3 : FVec F S4096x8x128 .f32) (main_arg4 : IVec S5 32) (main_arg5 : FVec F S1024x16 .f32) : IVec S4096x8x128 1 :=
  let main_cst : FVec F S_ .f32 := constant S_ .f32 0x7F800000#32
  let main_v0 : FVec F S4096x8x128 .f32 := broadcastInDim S4096x8x128 ![] bcast_S_S4096x8x128 main_cst
  let main_v1 : IVec S4096x8x128 1 := cmpf .olt main_arg1 main_v0
  main_v1
-- ==== Kernel.lean ====
abbrev S4096x8x128 : Shape := ⟨3, ![4096, 8, 128]⟩
abbrev S5 : Shape := ⟨1, ![5]⟩
abbrev S1024x16 : Shape := ⟨2, ![1024, 16]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S32x1024 : Shape := ⟨2, ![32, 1024]⟩
abbrev S1024x32 : Shape := ⟨2, ![1024, 32]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩
abbrev S32x128 : Shape := ⟨2, ![32, 128]⟩
abbrev S1x1024 : Shape := ⟨2, ![1, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4096x8x128, .f32⟩
  | .hbm, ⟨1, _⟩ => ⟨S4096x8x128, .f32⟩
  | .hbm, ⟨2, _⟩ => ⟨S4096x8x128, .f32⟩
  | .hbm, ⟨3, _⟩ => ⟨S4096x8x128, .f32⟩
  | .hbm, ⟨4, _⟩ => ⟨S5, .i32⟩
  | .hbm, ⟨5, _⟩ => ⟨S1024x16, .f32⟩
  | .hbm, ⟨6, _⟩ => ⟨S4x1024x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4096x8x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x16, .f32⟩
  | .local _ .vmem, ⟨9, _⟩ => ⟨S1x1024x1024, .f32⟩
  | .local _ .vmem, ⟨10, _⟩ => ⟨S1x1024x1024, .f32⟩
  | .local _ .vmem, ⟨11, _⟩ => ⟨S1024x16, .f32⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "inv_sqrt_d" => some (((Real.sqrt 128)⁻¹ : ℝ) : EReal)
  | "mask" => some ⊥
  | "sqrt_d" => some ((Real.sqrt 128 : ℝ) : EReal)
  | _ => none
-- ==== ReferenceIdeal.lean ====
abbrev S4096x8x128 : Shape := ⟨3, ![4096, 8, 128]⟩
abbrev S5 : Shape := ⟨1, ![5]⟩
abbrev S1024x16 : Shape := ⟨2, ![1024, 16]⟩
abbrev S_ : Shape := ⟨0, ![]⟩
abbrev S4x1024x8x128 : Shape := ⟨4, ![4, 1024, 8, 128]⟩
abbrev S4x1024x1024 : Shape := ⟨3, ![4, 1024, 1024]⟩
abbrev S4x1024x16 : Shape := ⟨3, ![4, 1024, 16]⟩
abbrev S4x1024x8 : Shape := ⟨3, ![4, 1024, 8]⟩
abbrev S4x32x32x8x128 : Shape := ⟨5, ![4, 32, 32, 8, 128]⟩
abbrev S4x32x8x128 : Shape := ⟨4, ![4, 32, 8, 128]⟩
abbrev S4x8x32x1024 : Shape := ⟨4, ![4, 8, 32, 1024]⟩
abbrev S4x1024x8x32 : Shape := ⟨4, ![4, 1024, 8, 32]⟩
abbrev S1024 : Shape := ⟨1, ![1024]⟩
abbrev S1024x1 : Shape := ⟨2, ![1024, 1]⟩
abbrev S32 : Shape := ⟨1, ![32]⟩
abbrev S1x32 : Shape := ⟨2, ![1, 32]⟩
abbrev S1024x32 : Shape := ⟨2, ![1024, 32]⟩
abbrev S1x1024x1x32 : Shape := ⟨4, ![1, 1024, 1, 32]⟩
abbrev S4x1024x8x4 : Shape := ⟨4, ![4, 1024, 8, 4]⟩
abbrev S4x1024x8x2 : Shape := ⟨4, ![4, 1024, 8, 2]⟩
abbrev S4x1024x8x2x2 : Shape := ⟨5, ![4, 1024, 8, 2, 2]⟩
abbrev S4x8x128x1024 : Shape := ⟨4, ![4, 8, 128, 1024]⟩
abbrev S4x1024x8x1 : Shape := ⟨4, ![4, 1024, 8, 1]⟩
abbrev S4x1024x8x4x1 : Shape := ⟨5, ![4, 1024, 8, 4, 1]⟩
abbrev S1x1x1x1x32 : Shape := ⟨5, ![1, 1, 1, 1, 32]⟩
abbrev S4x1024x8x4x32 : Shape := ⟨5, ![4, 1024, 8, 4, 32]⟩
abbrev S4x1024x8x32x32 : Shape := ⟨5, ![4, 1024, 8, 32, 32]⟩
abbrev S4x1024x8x1024 : Shape := ⟨4, ![4, 1024, 8, 1024]⟩
abbrev S4x8x1024x1024 : Shape := ⟨4, ![4, 8, 1024, 1024]⟩
abbrev S1x1024 : Shape := ⟨2, ![1, 1024]⟩
abbrev S1024x1024 : Shape := ⟨2, ![1024, 1024]⟩
abbrev S1x1024x1x1024 : Shape := ⟨4, ![1, 1024, 1, 1024]⟩

abbrev nBuf : Space → Nat
  | .hbm => 164
  | .vmem => 0
  | .smem => 0
  | _ => 0

abbrev hbmTy0_0 (i : Nat) : BufTy := match i % 128 with
  | 0 => ⟨S4096x8x128, .f32⟩
  | 1 => ⟨S4096x8x128, .f32⟩
  | 2 => ⟨S4096x8x128, .f32⟩
  | 3 => ⟨S4096x8x128, .f32⟩
  | 4 => ⟨S5, .i32⟩
  | 5 => ⟨S1024x16, .f32⟩
  | 6 => ⟨S_, .f32⟩
  | 7 => ⟨S_, .f32⟩
  | 8 => ⟨S4x1024x8x128, .f32⟩
  | 9 => ⟨S4x1024x8x128, .f32⟩
  | 10 => ⟨S4x1024x8x128, .f32⟩
  | 11 => ⟨S4x1024x1024, .f32⟩
  | 12 => ⟨S4x1024x16, .f32⟩
  | 13 => ⟨S4x1024x16, .f32⟩
  | 14 => ⟨S4x1024x16, .f32⟩
  | 15 => ⟨S_, .f32⟩
  | 16 => ⟨S4x1024x16, .f32⟩
  | 17 => ⟨S4x1024x16, .f32⟩
  | 18 => ⟨S_, .f32⟩
  | 19 => ⟨S4x1024x16, .f32⟩
  | 20 => ⟨S4x1024x16, .f32⟩
  | 21 => ⟨S4x1024x8, .f32⟩
  | 22 => ⟨S4x1024x8, .f32⟩
  | 23 => ⟨S4x32x32x8x128, .f32⟩
  | 24 => ⟨S_, .f32⟩
  | 25 => ⟨S4x32x8x128, .f32⟩
  | 26 => ⟨S_, .f32⟩
  | 27 => ⟨S4x32x8x128, .f32⟩
  | 28 => ⟨S4x32x8x128, .f32⟩
  | 29 => ⟨S4x32x32x8x128, .f32⟩
  | 30 => ⟨S_, .f32⟩
  | 31 => ⟨S4x32x8x128, .f32⟩
  | 32 => ⟨S_, .f32⟩
  | 33 => ⟨S4x32x8x128, .f32⟩
  | 34 => ⟨S4x32x8x128, .f32⟩
  | 35 => ⟨S4x8x32x1024, .f32⟩
  | 36 => ⟨S4x1024x8x32, .f32⟩
  | 37 => ⟨S4x1024x8x32, .f32⟩
  | 38 => ⟨S4x1024x8x32, .f32⟩
  | 39 => ⟨S1024, .i32⟩
  | 40 => ⟨S1024x1, .i32⟩
  | 41 => ⟨S_, .i32⟩
  | 42 => ⟨S_, .i32⟩
  | 43 => ⟨S1024x1, .i32⟩
  | 44 => ⟨S1024x1, .i32⟩
  | 45 => ⟨S1024x1, .i32⟩
  | 46 => ⟨S_, .i32⟩
  | 47 => ⟨S1024x1, .i32⟩
  | 48 => ⟨S1024x1, .i1⟩
  | 49 => ⟨S1024x1, .i32⟩
  | 50 => ⟨S1024x1, .i32⟩
  | 51 => ⟨S_, .i32⟩
  | 52 => ⟨S1024x1, .i32⟩
  | 53 => ⟨S1024x1, .i1⟩
  | 54 => ⟨S1024x1, .i1⟩
  | 55 => ⟨S_, .i32⟩
  | 56 => ⟨S1024x1, .i32⟩
  | 57 => ⟨S1024x1, .i32⟩
  | 58 => ⟨S1024x1, .i32⟩
  | 59 => ⟨S32, .i32⟩
  | 60 => ⟨S1x32, .i32⟩
  | 61 => ⟨S1024x32, .i32⟩
  | 62 => ⟨S1024x32, .i32⟩
  | 63 => ⟨S1024x32, .i1⟩
  | 64 => ⟨S1x1024x1x32, .i1⟩
  | 65 => ⟨S_, .f32⟩
  | 66 => ⟨S_, .f32⟩
  | 67 => ⟨S4x1024x8x32, .i1⟩
  | 68 => ⟨S4x1024x8x32, .f32⟩
  | 69 => ⟨S4x1024x8x32, .f32⟩
  | 70 => ⟨S4x1024x8x32, .f32⟩
  | 71 => ⟨S4x1024x8x32, .f32⟩
  | 72 => ⟨S_, .f32⟩
  | 73 => ⟨S4x1024x8x32, .f32⟩
  | 74 => ⟨S4x1024x8x32, .f32⟩
  | 75 => ⟨S_, .f32⟩
  | 76 => ⟨S4x1024x8x32, .f32⟩
  | 77 => ⟨S4x1024x8x32, .f32⟩
  | 78 => ⟨S4x1024x8x32, .f32⟩
  | 79 => ⟨S4x1024x8x32, .f32⟩
  | 80 => ⟨S4x1024x8x32, .f32⟩
  | 81 => ⟨S1024x32, .i32⟩
  | 82 => ⟨S1024x32, .i32⟩
  | 83 => ⟨S1024x32, .i1⟩
  | 84 => ⟨S1x1024x1x32, .i1⟩
  | 85 => ⟨S_, .f32⟩
  | 86 => ⟨S_, .f32⟩
  | 87 => ⟨S4x1024x8x32, .i1⟩
  | 88 => ⟨S4x1024x8x32, .f32⟩
  | 89 => ⟨S4x1024x8x32, .f32⟩
  | 90 => ⟨S4x1024x8x4, .f32⟩
  | 91 => ⟨S4x1024x8x4, .i32⟩
  | 92 => ⟨S4x1024x8x2, .i32⟩
  | 93 => ⟨S4x1024x8x2x2, .i32⟩
  | 94 => ⟨S4x1024x8x4, .i32⟩
  | 95 => ⟨S1x1024x1x32, .i1⟩
  | 96 => ⟨S4x1024x8x32, .f32⟩
  | 97 => ⟨S4x1024x8x32, .f32⟩
  | 98 => ⟨S_, .f32⟩
  | 99 => ⟨S4x1024x8x32, .f32⟩
  | 100 => ⟨S4x1024x8x32, .f32⟩
  | 101 => ⟨S_, .f32⟩
  | 102 => ⟨S4x1024x8x32, .f32⟩
  | 103 => ⟨S4x1024x8x32, .f32⟩
  | 104 => ⟨S4x1024x8x32, .f32⟩
  | 105 => ⟨S4x1024x8x32, .f32⟩
  | 106 => ⟨S4x1024x8x32, .f32⟩
  | 107 => ⟨S_, .f32⟩
  | 108 => ⟨S_, .f32⟩
  | 109 => ⟨S4x1024x8x32, .i1⟩
  | 110 => ⟨S4x1024x8x32, .f32⟩
  | 111 => ⟨S4x1024x8x32, .f32⟩
  | 112 => ⟨S4x8x128x1024, .f32⟩
  | 113 => ⟨S4x1024x8x128, .f32⟩
  | 114 => ⟨S4x1024x8x1, .f32⟩
  | 115 => ⟨S4x1024x8x128, .f32⟩
  | 116 => ⟨S4x1024x8x128, .f32⟩
  | 117 => ⟨S4x1024x8x4x1, .i32⟩
  | 118 => ⟨S1x1x1x1x32, .i32⟩
  | 119 => ⟨S4x1024x8x4x32, .i32⟩
  | 120 => ⟨S4x1024x8x4x32, .i32⟩
  | 121 => ⟨S4x1024x8x4x32, .i1⟩
  | 122 => ⟨S4x1024x8x4x32, .f32⟩
  | 123 => ⟨S_, .f32⟩
  | 124 => ⟨S4x1024x8x32, .f32⟩
  | 125 => ⟨S4x1024x8x32x32, .f32⟩
  | 126 => ⟨S4x1024x8x1024, .f32⟩
  | 127 => ⟨S4x8x1024x1024, .f32⟩
  | _ => ⟨S4096x8x128, .f32⟩

abbrev hbmTy0_1 (i : Nat) : BufTy := match i % 128 with
  | 0 => ⟨S4x1024x8x1024, .f32⟩
  | 1 => ⟨S4x1024x8x1024, .f32⟩
  | 2 => ⟨S4x1024x8x1024, .f32⟩
  | 3 => ⟨S1024, .i32⟩
  | 4 => ⟨S1024x1, .i32⟩
  | 5 => ⟨S1024, .i32⟩
  | 6 => ⟨S1x1024, .i32⟩
  | 7 => ⟨S1024x1024, .i32⟩
  | 8 => ⟨S1024x1024, .i32⟩
  | 9 => ⟨S1024x1024, .i1⟩
  | 10 => ⟨S1x1024x1x1024, .i1⟩
  | 11 => ⟨S4x1024x8x1024, .f32⟩
  | 12 => ⟨S4x1024x8x1024, .f32⟩
  | 13 => ⟨S_, .f32⟩
  | 14 => ⟨S4x1024x8x1024, .f32⟩
  | 15 => ⟨S4x1024x8x1024, .f32⟩
  | 16 => ⟨S_, .f32⟩
  | 17 => ⟨S4x1024x8x1024, .f32⟩
  | 18 => ⟨S4x1024x8x1024, .f32⟩
  | 19 => ⟨S4x1024x8x1024, .f32⟩
  | 20 => ⟨S4x1024x8x1024, .f32⟩
  | 21 => ⟨S4x1024x8x1024, .f32⟩
  | 22 => ⟨S_, .f32⟩
  | 23 => ⟨S_, .f32⟩
  | 24 => ⟨S4x1024x8x1024, .i1⟩
  | 25 => ⟨S4x1024x8x1024, .f32⟩
  | 26 => ⟨S4x1024x8x1024, .f32⟩
  | 27 => ⟨S4x1024x8x1024, .f32⟩
  | 28 => ⟨S4x8x128x1024, .f32⟩
  | 29 => ⟨S4x1024x8x128, .f32⟩
  | 30 => ⟨S4x1024x8x1, .f32⟩
  | 31 => ⟨S4x1024x8x128, .f32⟩
  | 32 => ⟨S4x1024x8x128, .f32⟩
  | 33 => ⟨S4x1024x8x128, .f32⟩
  | 34 => ⟨S4096x8x128, .f32⟩
  | 35 => ⟨S4096x8x128, .f32⟩
  | _ => ⟨S4096x8x128, .f32⟩

abbrev hbmTy (i : Nat) : BufTy := match i / 128 with
  | 0 => hbmTy0_0 i
  | 1 => hbmTy0_1 i
  | _ => ⟨S4096x8x128, .f32⟩

abbrev bufTy : (tb : Table) → Fin (tcTables nBuf tb) → BufTy
  | .hbm, ⟨i, _⟩ => hbmTy i
  | _, _ => ⟨S4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_6 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_7 : Ref sig .tc := ⟨.hbm, 72, rfl⟩
abbrev main_v38 : Ref sig .tc := ⟨.hbm, 73, rfl⟩
abbrev main_v39 : Ref sig .tc := ⟨.hbm, 74, rfl⟩
abbrev main_cst_8 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_9 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v49 : Ref sig .tc := ⟨.hbm, 89, rfl⟩
abbrev main_values : Ref sig .tc := ⟨.hbm, 90, rfl⟩
abbrev main_indices : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_10 : Ref sig .tc := ⟨.hbm, 98, rfl⟩
abbrev main_v56 : Ref sig .tc := ⟨.hbm, 99, rfl⟩
abbrev main_v57 : Ref sig .tc := ⟨.hbm, 100, rfl⟩
abbrev main_cst_11 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_12 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_v69 : Ref sig .tc := ⟨.hbm, 122, rfl⟩
abbrev main_cst_13 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_14 : Ref sig .tc := ⟨.hbm, 141, rfl⟩
abbrev main_v87 : Ref sig .tc := ⟨.hbm, 142, rfl⟩
abbrev main_v88 : Ref sig .tc := ⟨.hbm, 143, rfl⟩
abbrev main_cst_15 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_cst_16 : Ref sig .tc := ⟨.hbm, 150, rfl⟩
abbrev main_call5_v0 : Ref sig .tc := ⟨.hbm, 151, rfl⟩
abbrev main_call5_v1 : Ref sig .tc := ⟨.hbm, 152, rfl⟩
abbrev main_call5_v2 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩

abbrev nD : Nat := 1
abbrev τ : Topo := Topo.v7x

variable {F : FTy → Type} [FloatOps F]
-- ==== Proof.BelowInf.lean ====
/- What the precondition says: no entry of `k` is +∞. -/
module

public import proofs.«01_k».proof.Defs
public import Idealize.ShloMosaic.Lib.Pipeline.ValueKit

@[expose] public section

noncomputable section

namespace Cert.Proof.BelowInf

open Idealize.ShloMosaic

theorem facts : Cert.Pre_k_below_inf.Facts := ⟨by decide⟩

theorem ofBits_top : Ideal.ofBits .f32 0x7F800000#32 = (⊤ : EReal) := by
  simp [Ideal.ofBits, Ideal.ieee]

/-- A comparison that holds is the order it compares by. -/
theorem lt_of_word (x y : EReal) (h : BitVec.ofBool (decide (x < y)) = 1#1) : x < y := by
  by_contra n
  rw [decide_eq_false n] at h
  exact absurd h (by decide)

/-- An entry of `k`. -/
abbrev entry (m : (ℓ : Loc Cert.KernelIdeal.nD Cert.KernelIdeal.τ Cert.KernelIdeal.sig) → Buf (Elt Ideal) ℓ) (c : Dev Cert.KernelIdeal.nD)
    (i : Cert.KernelIdeal.S4096x8x128.Idx) : EReal :=
  m ((c.tc : Thread Cert.KernelIdeal.nD Cert.KernelIdeal.τ).loc Cert.KernelIdeal.main_arg1) i

/-- Every entry of `k` is below +∞. -/
theorem k_ne_top (m) (h : @Cert.Pre_KernelIdeal_k_below_inf facts m) (c : Dev Cert.KernelIdeal.nD) (i : Cert.KernelIdeal.S4096x8x128.Idx) :
    entry m c i ≠ ⊤ :=
  (lt_of_lt_of_eq (lt_of_word _ _ (congrFun (h c) i)) ofBits_top).ne

end Cert.Proof.BelowInf

end
-- ==== Proof.Select.lean ====
/- Which three of 32 blocks a query selects. Both programs rank the blocks of one query by a key, the greatest first and the
   block of the lower number first among equal keys. The kernel takes the greatest three times, striking out each block it has
   taken; the reference sorts the keys stably and reads the first positions. This module says that the two give the same blocks,
   for keys on the extended reals none of which is minus infinity (the value a struck-out block is overwritten with). -/
module

public import Idealize.ShloMosaic.Lib.SortPrefix
public import Mathlib.Data.EReal.Basic
public import Mathlib.Data.Finset.Max

@[expose] public section

noncomputable section

namespace Cert.Proof.Select

open Idealize.ShloMosaic

/-- The greatest of the 32 keys. -/
def top (w : Fin 32 → EReal) : EReal := Finset.univ.fold max ⊥ w

/-- No key exceeds the greatest. -/
theorem le_top (w : Fin 32 → EReal) (n : Fin 32) : w n ≤ top w :=
  Finset.le_fold_max _ |>.mpr (Or.inr ⟨n, Finset.mem_univ _, le_rfl⟩)

/-- Some block has the greatest key. -/
theorem exists_top (w : Fin 32 → EReal) : ∃ n, w n = top w := by
  by_contra h
  push Not at h
  have hlt : ∀ n, w n < top w := fun n => lt_of_le_of_ne (le_top w n) (h n)
  have : top w < top w := by
    conv_lhs => unfold top
    rw [Finset.fold_max_lt]
    exact ⟨lt_of_le_of_lt bot_le (hlt 0), fun n _ => hlt n⟩
  exact lt_irrefl _ this

/-- The blocks whose key is the greatest. -/
def tops (w : Fin 32 → EReal) : Finset (Fin 32) := Finset.univ.filter fun n => w n = top w

theorem tops_nonempty (w : Fin 32 → EReal) : (tops w).Nonempty := by
  obtain ⟨n, hn⟩ := exists_top w
  exact ⟨n, by simp [tops, hn]⟩

/-- The lowest block whose key is the greatest. -/
def first (w : Fin 32 → EReal) : Fin 32 := (tops w).min' (tops_nonempty w)

theorem first_eq_top (w : Fin 32 → EReal) : w (first w) = top w :=
  (Finset.mem_filter.mp ((tops w).min'_mem (tops_nonempty w))).2

theorem le_first (w : Fin 32 → EReal) (n : Fin 32) : w n ≤ w (first w) := first_eq_top w ▸ le_top w n

theorem first_le (w : Fin 32 → EReal) (n : Fin 32) (h : w n = top w) : first w ≤ n :=
  (tops w).min'_le n (by simp [tops, h])

/-- A lower block than the first has a smaller key. -/
theorem lt_of_lt_first (w : Fin 32 → EReal) (n : Fin 32) (h : n < first w) : w n < w (first w) :=
  lt_of_le_of_ne (le_first w n) fun e => absurd (first_le w n (e.trans (first_eq_top w))) (not_le.mpr h)

/-- The keys with block `p` struck out: minus infinity in its place. -/
def strike (w : Fin 32 → EReal) (p : Fin 32) : Fin 32 → EReal := fun n => if n = p then ⊥ else w n

/-- The block selected first, second, third. -/
def pick0 (w : Fin 32 → EReal) : Fin 32 := first w
def pick1 (w : Fin 32 → EReal) : Fin 32 := first (strike w (pick0 w))
def pick2 (w : Fin 32 → EReal) : Fin 32 := first (strike (strike w (pick0 w)) (pick1 w))

/-! ## The order of the reference's sort -/

/-- A sort by the key alone, stable, of the positions `0, 1, …` is the sort by the key and then the position. -/
theorem sort_key_eq (w : Fin 32 → EReal) (l : List (Fin 32)) (hl : l.Pairwise (· < ·)) :
    stableSort (fun k k' => decide (w k' < w k)) l
      = stableSort (fun k k' => decide (w k' < w k) || (decide (w k = w k') && decide (k < k'))) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ l).mem_iff.mp hb)
    simp [not_lt.mpr hab.le]

/-- Two orders that sort the positions alike put the same position at every place. -/
theorem sortedFrom_of_positions {n : Nat} (R R' : Fin n → Fin n → Bool) (h : sortPositions n R = sortPositions n R') :
    sortedFrom R = sortedFrom R' := by
  funext k
  unfold sortedFrom
  rw [List.get_of_eq h]
  rfl

/-- By the key, greater first, and then the position: a strict total order. -/
theorem total (w : Fin 32 → EReal) :
    StrictTotalBefore fun k k' : Fin 32 => decide (w k' < w k) || (decide (w k = w k') && decide (k < k')) :=
  StrictTotalBefore.of_key_then_position (fun a b : EReal => decide (b < a)) w
    (fun a => by simp) (fun a b c hab hbc => by simp only [decide_eq_true_eq] at *; exact lt_trans hbc hab)
    (fun a b => by
      simp only [decide_eq_true_eq]
      rcases lt_trichotomy a b with h | h | h
      · exact Or.inr (Or.inr h)
      · exact Or.inr (Or.inl h)
      · exact Or.inl h)

/-- `p` does not come before the first block. -/
theorem not_before_first (w : Fin 32 → EReal) (p : Fin 32) :
    (decide (w (first w) < w p) || (decide (w p = w (first w)) && decide (p < first w))) = false := by
  have h1 := le_first w p
  have h2 : w p = w (first w) → ¬ p < first w := fun e hp => absurd e (lt_of_lt_first w p hp).ne
  simp only [Bool.or_eq_false_iff, decide_eq_false_iff_not, not_lt, Bool.and_eq_false_imp, decide_eq_true_eq]
  exact ⟨h1, fun e => not_lt.mp (h2 e)⟩

theorem strike_of_ne (w : Fin 32 → EReal) {p n : Fin 32} (h : n ≠ p) : strike w p n = w n := if_neg h

theorem strike_self (w : Fin 32 → EReal) (p : Fin 32) : strike w p p = ⊥ := if_pos rfl

/-- Where some block is not minus infinity, the first block is none whose key is minus infinity. -/
theorem first_ne_of_bot (w : Fin 32 → EReal) (p n : Fin 32) (hp : w p = ⊥) (hn : w n ≠ ⊥) : first w ≠ p := by
  intro e
  have := le_first w n
  rw [e, hp, le_bot_iff] at this
  exact hn this

variable (w : Fin 32 → EReal) (hw : ∀ n, w n ≠ ⊥)
include hw

theorem pick1_ne : pick1 w ≠ pick0 w := by
  obtain ⟨n, hn⟩ : ∃ n : Fin 32, n ≠ pick0 w := exists_ne _
  exact first_ne_of_bot (strike w (pick0 w)) (pick0 w) n (strike_self _ _) (by rw [strike_of_ne _ hn]; exact hw n)

theorem pick2_ne : pick2 w ≠ pick0 w ∧ pick2 w ≠ pick1 w := by
  obtain ⟨n, h0, h1⟩ : ∃ n : Fin 32, n ≠ pick0 w ∧ n ≠ pick1 w := by
    obtain ⟨n, -, hn⟩ := Finset.exists_mem_notMem_of_card_lt_card (s := {pick0 w, pick1 w}) (t := Finset.univ)
      (lt_of_le_of_lt (Finset.card_le_two) (by rw [Finset.card_univ, Fintype.card_fin]; omega))
    simp only [Finset.mem_insert, Finset.mem_singleton, not_or] at hn
    exact ⟨n, hn⟩
  have hn : strike (strike w (pick0 w)) (pick1 w) n ≠ ⊥ := by
    rw [strike_of_ne _ h1, strike_of_ne _ h0]; exact hw n
  have h0 : strike (strike w (pick0 w)) (pick1 w) (pick0 w) = ⊥ := by
    rw [strike_of_ne _ (pick1_ne w hw).symm, strike_self]
  exact ⟨first_ne_of_bot (strike (strike w (pick0 w)) (pick1 w)) (pick0 w) n h0 hn,
    first_ne_of_bot (strike (strike w (pick0 w)) (pick1 w)) (pick1 w) n (strike_self _ _) hn⟩

/-- The reference's sort and the kernel's three rounds select the same blocks. -/
theorem sortedFrom_eq_picks (i : Fin 3) :
    sortedFrom (fun k k' : Fin 32 => decide (w k' < w k)) (i.castLE (by decide)) = ![pick0 w, pick1 w, pick2 w] i := by
  have hs : sortedFrom (fun k k' : Fin 32 => decide (w k' < w k))
      = sortedFrom (fun k k' : Fin 32 => decide (w k' < w k) || (decide (w k = w k') && decide (k < k'))) :=
    sortedFrom_of_positions _ _ (sort_key_eq w (List.finRange 32) (List.pairwise_lt_finRange 32))
  rw [hs]
  have h10 := pick1_ne w hw
  obtain ⟨h20, h21⟩ := pick2_ne w hw
  -- no block outside the ones taken before comes before the block taken next
  have B0 : ∀ p, (decide (w (pick0 w) < w p) || (decide (w p = w (pick0 w)) && decide (p < pick0 w))) = false :=
    not_before_first w
  have B1 : ∀ p, p ≠ pick0 w →
      (decide (w (pick1 w) < w p) || (decide (w p = w (pick1 w)) && decide (p < pick1 w))) = false := fun p hp => by
    have := not_before_first (strike w (pick0 w)) p
    rw [show first (strike w (pick0 w)) = pick1 w from rfl, strike_of_ne _ h10, strike_of_ne _ hp] at this
    exact this
  have B2 : ∀ p, p ≠ pick0 w → p ≠ pick1 w →
      (decide (w (pick2 w) < w p) || (decide (w p = w (pick2 w)) && decide (p < pick2 w))) = false := fun p hp hp' => by
    have := not_before_first (strike (strike w (pick0 w)) (pick1 w)) p
    rw [show first (strike (strike w (pick0 w)) (pick1 w)) = pick2 w from rfl, strike_of_ne _ h21, strike_of_ne _ h20,
      strike_of_ne _ hp', strike_of_ne _ hp] at this
    exact this
  refine (total w).sortedFrom_eq_of_prefix (k := 3) (by decide) ![pick0 w, pick1 w, pick2 w] ?_ ?_ ?_ i
  · intro a b hab
    match a, b with
    | 0, 0 => rfl
    | 1, 1 => rfl
    | 2, 2 => rfl
    | 0, 1 => exact absurd hab.symm h10
    | 1, 0 => exact absurd hab h10
    | 0, 2 => exact absurd hab.symm h20
    | 2, 0 => exact absurd hab h20
    | 1, 2 => exact absurd hab.symm h21
    | 2, 1 => exact absurd hab h21
  · intro a b hab
    match a, b with
    | 0, 1 => exact B0 _
    | 0, 2 => exact B0 _
    | 1, 2 => exact B1 _ h20
    | 0, 0 => exact absurd hab (by decide)
    | 1, 0 => exact absurd hab (by decide)
    | 1, 1 => exact absurd hab (by decide)
    | 2, 0 => exact absurd hab (by decide)
    | 2, 1 => exact absurd hab (by decide)
    | 2, 2 => exact absurd hab (by decide)
  · intro a p hp
    have p0 : p ≠ pick0 w := fun e => hp 0 e.symm
    have p1 : p ≠ pick1 w := fun e => hp 1 e.symm
    match a with
    | 0 => exact B0 _
    | 1 => exact B1 _ p0
    | 2 => exact B2 _ p0 p1

end Cert.Proof.Select

end
-- ==== Proof.Spec.lean ====
/- What both programs compute, in scalars: one query of one head against the keys and values of its sequence. -/
module

public import proofs.«01_k».proof.Proof.Select
public import Idealize.ShloMosaic.Lib.Pointwise

@[expose] public section

noncomputable section

namespace Cert.Proof.Spec

open Idealize.ShloMosaic Cert.Proof.Select

/-- The scale of the scores, `1/√128`. -/
abbrev scale : EReal := (((Real.sqrt 128)⁻¹ : ℝ) : EReal)

/-- Its inverse, `√128`. -/
abbrev unscale : EReal := ((Real.sqrt 128 : ℝ) : EReal)

/-- The activation of a score: `s · logistic s · √128`. -/
def act (s : EReal) : EReal := s * Ideal.logistic s * unscale

/-- Token `i` of block `n`. -/
abbrev tok (n i : Fin 32) : Fin 1024 := ⟨32 * n.1 + i.1, by omega⟩

/-- The block of a token. -/
abbrev blk (l : Fin 1024) : Fin 32 := ⟨l.1 / 32, by omega⟩

/-- The mean of `x` over the tokens of block `n`. -/
def mean (x : Fin 1024 → EReal) (n : Fin 32) : EReal := (∑ i : Fin 32, x (tok n i)) * ((1 / 32 : ℝ) : EReal)

/-- The score of a key against a query. -/
def score (k q : Fin 128 → EReal) : EReal := (∑ d, k d * q d) * scale

/-- The weight of block `n`'s mean key for the query at `l`: nothing for a later block. -/
def blockWeight (K : Fin 1024 → Fin 128 → EReal) (q : Fin 128 → EReal) (l : Fin 1024) (n : Fin 32) : EReal :=
  if n ≤ blk l then act (score (fun d => mean (fun j => K j d) n) q) else 0

/-- What blocks are chosen by: their weight, and one for the query's own block. -/
def blockKey (K : Fin 1024 → Fin 128 → EReal) (q : Fin 128 → EReal) (l : Fin 1024) (n : Fin 32) : EReal :=
  if blk l = n then 1 else blockWeight K q l n

/-- How often block `n` counts: twice when it has the largest key, twice when it has the third largest. -/
def mult (w : Fin 32 → EReal) (n : Fin 32) : EReal :=
  2 * ((if n = pick0 w then 1 else 0) + if n = pick2 w then 1 else 0)

/-- The weight of the key at `j` for the query at `l`: nothing for a later one. -/
def tokenWeight (K : Fin 1024 → Fin 128 → EReal) (q : Fin 128 → EReal) (l j : Fin 1024) : EReal :=
  if j ≤ l then act (score (K j) q) else 0

/-- The output of one head at one query: the compressed and the selected attention, gated. -/
def head (K V : Fin 1024 → Fin 128 → EReal) (q : Fin 128 → EReal) (u g₁ g₂ : EReal) (l : Fin 1024) (d : Fin 128) : EReal :=
  u * ((∑ n, blockWeight K q l n * mean (fun j => V j d) n) * g₁
    + g₂ * ∑ j, tokenWeight K q l j * mult (blockKey K q l) (blk j) * V j d)

end Cert.Proof.Spec

end
-- ==== Proof.Words.lean ====
/- The integer words and the literals of both programs, read as numbers. -/
module

public import proofs.«01_k».proof.Proof.Spec
public import proofs.«01_k».proof.Proof.Gen.KernelIdeal.Skeleton

@[expose] public section

set_option maxRecDepth 16384

noncomputable section

namespace Cert.Proof.Words

open Idealize.ShloMosaic Cert.Proof.Select Cert.Proof.Spec

/-- A token's word divided by 32, rounded down, as the kernel spells it, is its block's word. -/
theorem floorDiv_word : ∀ l : Fin 1024,
    Scalar.select
      (IntOp.andi
        (IntOp.cmpi CmpIPredicate.ne
          (IntOp.subi (BitVec.setWidth 32 (IntOp.cmpi CmpIPredicate.sgt (BitVec.ofNat 32 l.1) 0#32))
            (BitVec.setWidth 32 (IntOp.cmpi CmpIPredicate.slt (BitVec.ofNat 32 l.1) 0#32)))
          (Scalar.subi (Scalar.extui (Scalar.cmpi CmpIPredicate.sgt 32#32 0#32))
            (Scalar.extui (Scalar.cmpi CmpIPredicate.slt 32#32 0#32))))
        (IntOp.cmpi CmpIPredicate.ne (IntOp.remsi ArithUnit.vector (BitVec.ofNat 32 l.1) 32#32) 0#32))
      (IntOp.subi (IntOp.divsi ArithUnit.vector (BitVec.ofNat 32 l.1) 32#32) 1#32)
      (IntOp.divsi ArithUnit.vector (BitVec.ofNat 32 l.1) 32#32) = BitVec.ofNat 32 (blk l).1 := by
  decide +kernel

/-- Words of small numbers are equal where the numbers are. -/
theorem ofNat_inj {a b : Nat} (ha : a < 2 ^ 31) (hb : b < 2 ^ 31) : BitVec.ofNat 32 a = BitVec.ofNat 32 b ↔ a = b := by
  constructor
  · intro h
    have := congrArg BitVec.toNat h
    simp only [BitVec.toNat_ofNat] at this
    omega
  · rintro rfl; rfl

/-- The word of a small number, signed. -/
theorem ofNat_toInt {a : Nat} (ha : a < 2 ^ 31) : (BitVec.ofNat 32 a).toInt = a := by
  rw [BitVec.toInt_eq_toNat_cond, BitVec.toNat_ofNat]
  omega

/-- A select on the equality of two words. -/
theorem select_eq {α : Type} (x y : BitVec 32) (a b : α) :
    Scalar.select (IntOp.cmpi CmpIPredicate.eq x y) a b = if x = y then a else b := by
  unfold Scalar.select IntOp.cmpi
  by_cases h : x = y
  · simp [h]
  · have hb : (x == y) = false := by simpa using h
    simp only [hb, if_neg h]; rfl

/-- A select on the order of the words of two small numbers. -/
theorem select_sge {α : Type} {x y : Nat} (hx : x < 2 ^ 31) (hy : y < 2 ^ 31) (a b : α) :
    Scalar.select (IntOp.cmpi CmpIPredicate.sge (BitVec.ofNat 32 x) (BitVec.ofNat 32 y)) a b = if y ≤ x then a else b := by
  unfold Scalar.select IntOp.cmpi
  have hw : (BitVec.ofNat 32 y).sle (BitVec.ofNat 32 x) = decide (y ≤ x) := by
    simp only [BitVec.sle, ofNat_toInt hx, ofNat_toInt hy, Nat.cast_le]
  by_cases h : y ≤ x
  · simp only [hw, h, decide_true, if_true]; rfl
  · simp only [hw, h, decide_false, if_false]; rfl

/-- The same, the other way round. -/
theorem select_sle {α : Type} {x y : Nat} (hx : x < 2 ^ 31) (hy : y < 2 ^ 31) (a b : α) :
    Scalar.select (IntOp.cmpi CmpIPredicate.sle (BitVec.ofNat 32 x) (BitVec.ofNat 32 y)) a b = if x ≤ y then a else b := by
  unfold Scalar.select IntOp.cmpi
  have hw : (BitVec.ofNat 32 x).sle (BitVec.ofNat 32 y) = decide (x ≤ y) := by
    simp only [BitVec.sle, ofNat_toInt hx, ofNat_toInt hy, Nat.cast_le]
  by_cases h : x ≤ y
  · simp only [hw, h, decide_true, if_true]; rfl
  · simp only [hw, h, decide_false, if_false]; rfl

/-- The equality of two words as a float: one or zero. -/
theorem onehot (x y : BitVec 32) :
    (FloatOps.sitofp FTy.f32 (BitVec.setWidth 32 (IntOp.cmpi CmpIPredicate.eq x y)) : Ideal .f32) = if x = y then (1 : EReal) else 0 := by
  show (((BitVec.setWidth 32 (IntOp.cmpi CmpIPredicate.eq x y)).toInt : ℝ) : EReal) = _
  unfold IntOp.cmpi
  by_cases h : x = y
  · simp [h]
  · have hb : (x == y) = false := by simpa using h
    simp [hb, h]

/-- The signed least of a family of words is the initial word or one of the family, and no greater than either. -/
theorem fold_min {ι : Type} (s : Finset ι) (f : ι → BitVec 32) (i : BitVec 32) :
    (s.fold IntOp.minsi i f = i ∨ ∃ x ∈ s, s.fold IntOp.minsi i f = f x)
      ∧ ∀ x ∈ s, (s.fold IntOp.minsi i f).toInt ≤ (f x).toInt := by
  classical
  induction s using Finset.induction with
  | empty => exact ⟨Or.inl rfl, fun _ h => absurd h (Finset.notMem_empty _)⟩
  | insert a s ha ih =>
    rw [Finset.fold_insert ha]
    generalize s.fold IntOp.minsi i f = r at ih
    have hslt : (f a).slt r = true ↔ (f a).toInt < r.toInt := by simp [BitVec.slt]
    by_cases h : (f a).toInt < r.toInt
    · have e : IntOp.minsi (f a) r = f a := if_pos (hslt.mpr h)
      rw [e]
      refine ⟨Or.inr ⟨a, Finset.mem_insert_self _ _, rfl⟩, fun x hx => ?_⟩
      rcases Finset.mem_insert.mp hx with rfl | hx
      · exact le_rfl
      · exact h.le.trans (ih.2 x hx)
    · have e : IntOp.minsi (f a) r = r := if_neg (fun h' => h (hslt.mp h'))
      rw [e]
      refine ⟨?_, fun x hx => ?_⟩
      · rcases ih.1 with h' | ⟨x, hx, h'⟩
        · exact Or.inl h'
        · exact Or.inr ⟨x, Finset.mem_insert_of_mem hx, h'⟩
      · rcases Finset.mem_insert.mp hx with rfl | hx
        · exact not_lt.mp h
        · exact ih.2 x hx

/-- The least word among the blocks of the greatest key is the first block's. -/
theorem word_first (w : Fin 32 → EReal) :
    Finset.fold IntOp.minsi 2147483647#32 (fun x : Fin 32 => if w x = top w then BitVec.ofNat 32 x.1 else 32#32) Finset.univ
      = BitVec.ofNat 32 (first w).1 := by
  obtain ⟨hr, hle⟩ := fold_min Finset.univ (fun x : Fin 32 => if w x = top w then BitVec.ofNat 32 x.1 else 32#32) 2147483647#32
  have hf := hle (first w) (Finset.mem_univ _)
  rw [if_pos (first_eq_top w), ofNat_toInt (by omega)] at hf
  rcases hr with hr | ⟨x, -, hr⟩
  · rw [hr] at hf
    have : (2147483647#32).toInt = 2147483647 := by decide
    omega
  · rw [hr] at hf ⊢
    by_cases hx : w x = top w
    · rw [if_pos hx, ofNat_toInt (by omega)] at hf
      rw [if_pos hx]
      have := first_le w x hx
      have : x = first w := le_antisymm (by rw [Fin.le_def]; omega) this
      rw [this]
    · rw [if_neg hx] at hf
      have : (32#32).toInt = 32 := by decide
      omega

/-! ## The literals -/

theorem named_inv_sqrt : (Named.named (F := Ideal) Cert.KernelIdeal.κ "inv_sqrt_d" 0x3DB504F3#32 : Ideal .f32) = scale :=
  IdealRules.named_const.ideal_named_scalar _ _ _ _ rfl

theorem named_sqrt : (Named.named (F := Ideal) Cert.KernelIdeal.κ "sqrt_d" 0x413504F3#32 : Ideal .f32) = unscale :=
  IdealRules.named_const.ideal_named_scalar _ _ _ _ rfl

theorem named_mask : (Named.named (F := Ideal) Cert.KernelIdeal.κ "mask" 0xF149F2CA#32 : Ideal .f32) = (⊥ : EReal) :=
  IdealRules.named_const.ideal_named_scalar _ _ _ _ rfl

theorem ofBits_thirtysecond : Ideal.ofBits .f32 0x3D000000#32 = ((1 / 32 : ℝ) : EReal) := by
  simp [Ideal.ofBits, Ideal.ieee, -EReal.coe_mul]; norm_num

theorem ofBits_two : Ideal.ofBits .f32 0x40000000#32 = (2 : EReal) := by
  have : Ideal.ofBits .f32 0x40000000#32 = ((2 : ℝ) : EReal) := by
    simp [Ideal.ofBits, Ideal.ieee, -EReal.coe_mul]; norm_num
  rw [this]; norm_cast

theorem ofBits_thirtytwo : Ideal.ofBits .f32 0x42000000#32 = ((32 : ℝ) : EReal) := by
  simp [Ideal.ofBits, Ideal.ieee, -EReal.coe_mul]; norm_num

theorem ofBits_bot : Ideal.ofBits .f32 0xFF800000#32 = (⊥ : EReal) := by
  simp [Ideal.ofBits, Ideal.ieee]

/-! ## The activation -/

/-- The activation of zero is zero. -/
theorem act_zero : act 0 = 0 := by simp [act]

/-- The activation is never minus infinity. -/
theorem act_ne_bot (s : EReal) : act s ≠ ⊥ := by
  have hr : (0 : ℝ) < Real.sqrt 128 := by positivity
  induction s using EReal.rec with
  | bot =>
    rw [act, Ideal.logistic_bot, mul_zero, zero_mul]; exact EReal.zero_ne_bot
  | top =>
    rw [act, Ideal.logistic_top, mul_one, unscale, EReal.top_mul_coe_of_pos hr]; exact top_ne_bot
  | coe x =>
    obtain ⟨y, hy⟩ : ∃ y : ℝ, Ideal.logistic (x : EReal) = (y : EReal) := ⟨_, Ideal.logistic_coe x⟩
    rw [act, hy, unscale, ← EReal.coe_mul, ← EReal.coe_mul]; exact EReal.coe_ne_bot _

/-- No key is minus infinity. -/
theorem blockKey_ne_bot (K : Fin 1024 → Fin 128 → EReal) (q : Fin 128 → EReal) (l : Fin 1024) (n : Fin 32) : blockKey K q l n ≠ ⊥ := by
  unfold blockKey blockWeight
  split_ifs
  · exact EReal.coe_ne_bot 1
  · exact act_ne_bot _
  · exact EReal.zero_ne_bot

/-! ## Sums against an indicator -/

/-- A sum against the indicator of one block. -/
theorem sum_onehot {ι : Type} [Fintype ι] [DecidableEq ι] (a : ι) (f : ι → EReal) : (∑ n, (if a = n then (1 : EReal) else 0) * f n) = f a := by
  simp

/-- A sum over the tokens of one block, picked out by an indicator. -/
theorem sum_block (n : Fin 32) (f : Fin 1024 → EReal) :
    (∑ j : Fin 1024, (if blk j = n then (1 : EReal) else 0) * f j) = ∑ i : Fin 32, f (tok n i) := by
  rw [← Equiv.sum_comp (finProdFinEquiv : Fin 32 × Fin 32 ≃ Fin (32 * 32)) (fun j : Fin 1024 => (if blk j = n then (1 : EReal) else 0) * f j),
    Fintype.sum_prod_type]
  have hb : ∀ a i : Fin 32, blk ((finProdFinEquiv : Fin 32 × Fin 32 ≃ Fin (32 * 32)) (a, i)) = a := fun a i => by
    apply Fin.ext; simp only [finProdFinEquiv_apply_val]; omega
  have ht : ∀ a i : Fin 32, (finProdFinEquiv : Fin 32 × Fin 32 ≃ Fin (32 * 32)) (a, i) = tok a i := fun a i => by
    apply Fin.ext; simp only [finProdFinEquiv_apply_val]; omega
  rw [Finset.sum_eq_single n]
  · exact Finset.sum_congr rfl fun i _ => by rw [hb, if_pos rfl, one_mul, ht]
  · exact fun a _ ha => Finset.sum_eq_zero fun i _ => by rw [hb, if_neg ha, zero_mul]
  · exact fun h => absurd (Finset.mem_univ _) h

end Cert.Proof.Words

end
-- ==== Proof.Stages.lean ====
/- One head of the kernel at one grid point, as a function of the blocks it loads, and what each of its stages holds at an index.
   The stages are the kernel's own for the first head; the other heads differ from it in the two gate columns alone. -/
module

public import proofs.«01_k».proof.Proof.Words

@[expose] public section

set_option maxRecDepth 16384

noncomputable section

namespace Cert.Proof.Stages

open Idealize.ShloMosaic Cert.KernelIdeal Cert.KernelIdeal.Gen Cert.Proof.Select Cert.Proof.Spec Cert.Proof.Words

section AnyFloats
variable {F : FTy → Type} [FloatOps F] [Named F]

/-- The block of each entry of a blocks × tokens array. -/
abbrev blocks : IVec S32x1024 32 := iota .tc S32x1024 32 [0] iota_S32x1024_d0_w32

/-- The token of each entry of a blocks × tokens array. -/
abbrev tokens : IVec S32x1024 32 := iota .tc S32x1024 32 [1] iota_S32x1024_d1_w32

/-- Which token belongs to which block, tokens × blocks. -/
abbrev memberT : FVec F S1024x32 .bf16 :=
  k0_pay6 (iota .tc S1024x32 32 [0] iota_S1024x32_d0_w32) (iota .tc S1024x32 32 [1] iota_S1024x32_d1_w32) 32#32 k0_pay5

/-- Where a block is not after the query's. -/
abbrev causal : IVec S32x1024 1 := k0_pay10 blocks (k0_pay7 tokens) (k0_pay8 tokens) 1#32

/-- Where a block is the query's own. -/
abbrev own : IVec S32x1024 1 := k0_pay11 blocks (k0_pay7 tokens) (k0_pay8 tokens) 1#32

/-- One column of the gates, by its word. -/
def gateCol (w : BitVec 32) (g : Vec F S1024x16 .f32) : FVec F S1024x1 .f32 :=
  have col : IVec S1024x16 1 := cmpi .eq (iota .tc S1024x16 32 [1] iota_S1024x16_d1_w32) (broadcast S1024x16 w)
  have kept : Vec F S1024x16 .f32 := select col g (broadcast S1024x16 (Scalar.ofBits .f32 0x00000000#32))
  have sum : FVec F S1024 .f32 := multiReduction .add [1] S1024 kept 0x00000000#32 reduces_S1024x16_S1024 (.inl rfl) rfl
  shapeCast S1024x1 sum shapeCasts_S1024_S1024x1

/-- What the kernel stores for a head, from the head's blocks of `q`, `k`, `v`, `u`, all the gates, and the words of its two
    gate columns. -/
def headOut (a b : BitVec 32) (q k v u : Vec F S1x1024x128 .f32) (g : Vec F S1024x16 .f32) : FVec F S1x1024x128 .f32 :=
  k0_pay24 blocks memberT k0_pay12 (k0_pay13 q) (k0_pay14 k) (k0_pay15 v) (gateCol b g)
    (k0_pay20 k0_pay3 causal (k0_pay13 q) (k0_pay15 v) (gateCol a g) (k0_pay18 k0_pay4 k))
    (k0_pay22 blocks causal own (k0_pay13 q) (k0_pay18 k0_pay4 k))
    (k0_pay23 blocks causal own (k0_pay13 q) (k0_pay18 k0_pay4 k)) u

end AnyFloats

/-! ## Which token is in which block -/

theorem member_apply (n : Fin 32) (l : Fin 1024) : k0_pay3 (F := Ideal) (ix2 n l) = if blk l = n then (1 : EReal) else 0 := by
  pointwise [k0_pay3]
  rw [onehot, floorDiv_word]
  simp only [ofNat_inj (show (blk l).1 < 2 ^ 31 by omega) (show n.1 < 2 ^ 31 by omega), Fin.ext_iff]

theorem memberB_apply (n : Fin 32) (l : Fin 1024) : k0_pay4 (F := Ideal) (ix2 n l) = if blk l = n then (1 : EReal) else 0 := by
  rw [← member_apply]
  pointwise [k0_pay4]

theorem memberT_apply (l : Fin 1024) (n : Fin 32) : memberT (F := Ideal) (ix2 l n) = if blk l = n then (1 : EReal) else 0 := by
  pointwise [memberT, k0_pay6, k0_pay5]
  rw [onehot, floorDiv_word]
  simp only [ofNat_inj (show (blk l).1 < 2 ^ 31 by omega) (show n.1 < 2 ^ 31 by omega), Fin.ext_iff]

theorem select_causal {α : Type} (n : Fin 32) (l : Fin 1024) (x y : α) :
    Scalar.select (causal (ix2 n l)) x y = if n ≤ blk l then x else y := by
  pointwise [causal, k0_pay10, k0_pay9, k0_pay8, k0_pay7]
  rw [floorDiv_word, select_sge (by omega) (by omega)]
  simp only [Fin.le_def]

theorem select_own {α : Type} (n : Fin 32) (l : Fin 1024) (x y : α) :
    Scalar.select (own (ix2 n l)) x y = if blk l = n then x else y := by
  pointwise [own, k0_pay11, k0_pay9, k0_pay8, k0_pay7]
  rw [floorDiv_word, select_eq]
  simp only [ofNat_inj (show (blk l).1 < 2 ^ 31 by omega) (show n.1 < 2 ^ 31 by omega), Fin.ext_iff]

theorem select_past {α : Type} (j l : Fin 1024) (x y : α) :
    Scalar.select (k0_pay12 (ix2 j l)) x y = if j ≤ l then x else y := by
  pointwise [k0_pay12]
  rw [select_sle (by omega) (by omega)]
  simp only [Fin.le_def]

/-! ## The head's rows -/

theorem rowQ (q : Vec Ideal S1x1024x128 .f32) (l : Fin 1024) (d : Fin 128) : k0_pay13 (F := Ideal) q (ix2 l d) = q (ix3 0 l d) := by
  pointwise [k0_pay13]

theorem rowK (k : Vec Ideal S1x1024x128 .f32) (l : Fin 1024) (d : Fin 128) : k0_pay14 (F := Ideal) k (ix2 l d) = k (ix3 0 l d) := by
  pointwise [k0_pay14]

theorem rowV (v : Vec Ideal S1x1024x128 .f32) (l : Fin 1024) (d : Fin 128) : k0_pay15 (F := Ideal) v (ix2 l d) = v (ix3 0 l d) := by
  pointwise [k0_pay15]

/-! ## The gates -/

theorem gateCol_apply (c : Fin 16) (g : Vec Ideal S1024x16 .f32) (l : Fin 1024) (z : Fin 1) :
    gateCol (BitVec.ofNat 32 c.1) g (ix2 l z) = g (ix2 l c) := by
  pointwise [gateCol]
  have h : ∀ x : Fin 16, (BitVec.ofNat 32 x.1 = BitVec.ofNat 32 c.1) = (x = c) := fun x => by
    rw [ofNat_inj (by omega) (by omega), Fin.ext_iff]
  simp only [select_eq, h, Finset.sum_ite_eq', Finset.mem_univ, if_true]

/-! ## The block means -/

variable (q k v u : Vec Ideal S1x1024x128 .f32) (g : Vec Ideal S1024x16 .f32)

/-- A sum with a part that is −∞ is −∞. -/
theorem sum_bot (f : Fin 32 → EReal) (i : Fin 32) (h : f i = ⊥) : ∑ n, f n = ⊥ := by
  rw [← Finset.add_sum_erase Finset.univ f (Finset.mem_univ i), h, EReal.bot_add]

/-- The keys summed over each block. The kernel adds what rounding a key leaves over: nothing where the block's keys are
finite, and where one is −∞ the sum is −∞ with it or without it. -/
theorem keySum_apply (hk : ∀ i, k i ≠ ⊤) (n : Fin 32) (d : Fin 128) :
    k0_pay18 (F := Ideal) k0_pay4 k (ix2 n d) = ∑ i : Fin 32, k (ix3 0 (tok n i) d) := by
  pointwise [k0_pay18, k0_pay14]
  simp only [memberB_apply]
  rw [sum_block n fun j => k (ix3 0 j d), sum_block n fun j => k (ix3 0 j d) - k (ix3 0 j d),
    sum_block n fun j => k (ix3 0 j d) - k (ix3 0 j d) - (k (ix3 0 j d) - k (ix3 0 j d))]
  by_cases h : ∃ i, k (ix3 0 (tok n i) d) = ⊥
  · obtain ⟨i, h⟩ := h
    rw [sum_bot _ i h, EReal.bot_add, EReal.bot_add]
  · have h0 : ∀ i, k (ix3 0 (tok n i) d) - k (ix3 0 (tok n i) d) = 0 := fun i =>
      EReal.sub_self (hk _) fun e => h ⟨i, e⟩
    simp only [h0, sub_zero, Finset.sum_const_zero, add_zero]

/-- The weights of the blocks. -/
theorem blockWeight_apply (hk : ∀ i, k i ≠ ⊤) (n : Fin 32) (l : Fin 1024) :
    k0_pay19 (F := Ideal) causal (k0_pay13 q) (k0_pay18 k0_pay4 k) (ix2 n l)
      = blockWeight (fun j d => k (ix3 0 j d)) (fun d => q (ix3 0 l d)) l n := by
  pointwise [k0_pay19, k0_pay13]
  rw [select_causal]
  simp only [keySum_apply k hk, ofBits_thirtysecond, named_inv_sqrt, named_sqrt]
  rfl

/-- The compressed attention, gated. -/
theorem compressed_apply (hk : ∀ i, k i ≠ ⊤) (c : Fin 16) (l : Fin 1024) (d : Fin 128) :
    k0_pay20 (F := Ideal) k0_pay3 causal (k0_pay13 q) (k0_pay15 v) (gateCol (BitVec.ofNat 32 c.1) g) (k0_pay18 k0_pay4 k) (ix2 l d)
      = (∑ n, blockWeight (fun j d => k (ix3 0 j d)) (fun d => q (ix3 0 l d)) l n * mean (fun j => v (ix3 0 j d)) n) * g (ix2 l c) := by
  pointwise [k0_pay20, k0_pay15]
  simp only [gateCol_apply, blockWeight_apply q k hk, ofBits_thirtysecond, member_apply]
  congr 1
  refine Finset.sum_congr rfl fun n _ => ?_
  rw [sum_block n fun j => v (ix3 0 j d)]
  rfl

/-! ## The choice of blocks -/

/-- The keys blocks are chosen by. -/
theorem blockKey_apply (hk : ∀ i, k i ≠ ⊤) (n : Fin 32) (l : Fin 1024) :
    k0_pay21 (F := Ideal) causal own (k0_pay13 q) (k0_pay18 k0_pay4 k) (ix2 n l)
      = blockKey (fun j d => k (ix3 0 j d)) (fun d => q (ix3 0 l d)) l n := by
  pointwise [k0_pay21]
  rw [select_own, blockWeight_apply q k hk]
  rfl

/-- The keys of the query at `l`. -/
abbrev keys (l : Fin 1024) : Fin 32 → EReal := blockKey (fun j d => k (ix3 0 j d)) (fun d => q (ix3 0 l d)) l

/-- The block chosen first. -/
theorem pick0_apply (hk : ∀ i, k i ≠ ⊤) (l : Fin 1024) (z : Fin 1) :
    k0_pay22 (F := Ideal) blocks causal own (k0_pay13 q) (k0_pay18 k0_pay4 k) (ix2 z l) = BitVec.ofNat 32 (pick0 (keys q k l)).1 := by
  pointwise [k0_pay22]
  simp only [blockKey_apply q k hk, ofBits_bot]
  exact word_first (keys q k l)

/-- The keys with the first two choices struck out. -/
theorem struck_apply (hk : ∀ i, k i ≠ ⊤) (n : Fin 32) (l : Fin 1024) :
    k0_pay23 (F := Ideal) blocks causal own (k0_pay13 q) (k0_pay18 k0_pay4 k) (ix2 n l)
      = strike (strike (keys q k l) (pick0 (keys q k l))) (pick1 (keys q k l)) n := by
  have h : ∀ x p : Fin 32, (BitVec.ofNat 32 x.1 = BitVec.ofNat 32 p.1) = (x = p) := fun x p => by
    rw [ofNat_inj (by omega) (by omega), Fin.ext_iff]
  pointwise [k0_pay23]
  simp only [select_eq, pick0_apply q k hk, blockKey_apply q k hk, ofBits_bot, named_mask, h]
  refine (congrArg (fun W : BitVec 32 => if BitVec.ofNat 32 n.1 = W then (⊥ : EReal) else strike (keys q k l) (pick0 (keys q k l)) n)
    (word_first (strike (keys q k l) (pick0 (keys q k l))))).trans ?_
  simp only [h]
  rfl

/-- What the kernel stores for a head, at an index. -/
theorem headOut_apply (hk : ∀ i, k i ≠ ⊤) (a b : Fin 16) (z : Fin 1) (l : Fin 1024) (d : Fin 128) :
    headOut (F := Ideal) (BitVec.ofNat 32 a.1) (BitVec.ofNat 32 b.1) q k v u g (ix3 z l d)
      = head (fun j d => k (ix3 0 j d)) (fun j d => v (ix3 0 j d)) (fun d => q (ix3 0 l d)) (u (ix3 0 l d)) (g (ix2 l a)) (g (ix2 l b)) l d := by
  have h : ∀ x p : Fin 32, (BitVec.ofNat 32 x.1 = BitVec.ofNat 32 p.1) = (x = p) := fun x p => by
    rw [ofNat_inj (by omega) (by omega), Fin.ext_iff]
  have hw := word_first (strike (strike (keys q k l) (pick0 (keys q k l))) (pick1 (keys q k l)))
  unfold top at hw
  pointwise [headOut, k0_pay24]
  simp only [compressed_apply q k v g hk, gateCol_apply, memberT_apply, onehot, pick0_apply q k hk, struck_apply q k hk, ofBits_bot,
    ofBits_two, named_inv_sqrt, named_sqrt, hw, h, select_past,
    sum_onehot, rowQ, rowK, rowV]
  have hj : ∀ j : Fin 1024, (if j ≤ l then act (score (fun d => k (ix3 0 j d)) fun d => q (ix3 0 l d)) * mult (keys q k l) (blk j) * v (ix3 0 j d) else 0)
      = tokenWeight (fun j d => k (ix3 0 j d)) (fun d => q (ix3 0 l d)) l j * mult (keys q k l) (blk j) * v (ix3 0 j d) := fun j => by
    unfold tokenWeight
    split_ifs
    · rfl
    · simp only [zero_mul]
  unfold head
  rw [← Finset.sum_congr rfl fun j _ => hj j]
  unfold mult act score
  rfl

end Cert.Proof.Stages

end
-- ==== Proof.Pieces.lean ====
/- The block the kernel writes at one grid point: eight stores, one per head, each the same function of that head's part of the
   blocks loaded. -/
module

public import proofs.«01_k».proof.Proof.Stages
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Proof.Pieces

open Idealize.ShloMosaic Idealize.ShloMosaic.TcCoe Cert.KernelIdeal Cert.KernelIdeal.Gen Cert.Proof.Stages Cert.Proof.Spec

section AnyFloats
variable {F : FTy → Type} [FloatOps F] [Named F] (m : (ℓ : Loc nD τ sig) → Buf (Elt F) ℓ)

/-- The part of a block that a head loads: 128 columns from column `o` on. -/
def part (X : Vec F S1x1024x1024 .f32) (o : Nat) (inb : ∀ a, (![0, 0, o] : Fin 3 → Nat) a + S1x1024x128.size a ≤ S1x1024x1024.size a) :
    Vec F S1x1024x128 .f32 :=
  View.ld X (Rect.unit (s := S1x1024x1024) ![0, 0, o] S1x1024x128.size inb)

/-- What the kernel leaves at an index of its block is `v`, if that is what the head whose columns hold the index computes. -/
theorem outsAt_of_heads (c : Dev nD) (t : Fin cfg0.N) (y : S1x1024x1024.Idx) (v : Elt F .f32)
    (hv : ∀ (h : Fin 8) (o : Nat) (inb : ∀ a, (![0, 0, o] : Fin 3 → Nat) a + S1x1024x128.size a ≤ S1x1024x1024.size a), o = 128 * h.1 →
      ∀ x : S1x1024x128.Idx, (y 1).1 = (x 1).1 → (y 2).1 = o + (x 2).1 →
        headOut (BitVec.ofNat 32 h.1) (BitVec.ofNat 32 (h.1 + 8)) (part (iblk m c 0 t) o inb) (part (iblk m c 1 t) o inb)
          (part (iblk m c 2 t) o inb) (part (iblk m c 3 t) o inb) (k0_pay2 (iblk m c 0 t) (iblk m c 4 t)) x = v) :
    outsAt0 m c t y = v := by
  unfold outsAt0
  frame_open
  simp (disch := decide) only [↓ View.readCov_skip, ↓ View.readCov_cons_toLoadRect, ↓ View.readCov_fill]
  frame_out
  canon_tiles x h
  case piece7 => exact hv 0 0 inb_S1x1024x1024_S1x1024x128_0_0_0 rfl x h1 (by omega)
  case piece6 => exact hv 1 128 inb_S1x1024x1024_S1x1024x128_0_0_128 rfl x h1 h2
  case piece5 => exact hv 2 256 inb_S1x1024x1024_S1x1024x128_0_0_256 rfl x h1 h2
  case piece4 => exact hv 3 384 inb_S1x1024x1024_S1x1024x128_0_0_384 rfl x h1 h2
  case piece3 => exact hv 4 512 inb_S1x1024x1024_S1x1024x128_0_0_512 rfl x h1 h2
  case piece2 => exact hv 5 640 inb_S1x1024x1024_S1x1024x128_0_0_640 rfl x h1 h2
  case piece1 => exact hv 6 768 inb_S1x1024x1024_S1x1024x128_0_0_768 rfl x h1 h2
  case piece0 => exact hv 7 896 inb_S1x1024x1024_S1x1024x128_0_0_896 rfl x h1 h2

end AnyFloats

end Cert.Proof.Pieces

end
-- ==== Proof.Result.lean ====
/- The whole result, in scalars: every head of every query of every sequence. -/
module

public import proofs.«01_k».proof.Proof.Spec

@[expose] public section

noncomputable section

namespace Cert.Proof.Spec

open Idealize.ShloMosaic

/-- The row of token `l` of sequence `b`. -/
abbrev row (b : Fin 4) (l : Fin 1024) : Fin 4096 := ⟨1024 * b.1 + l.1, by omega⟩

/-- An array of tokens, heads and channels. -/
abbrev Tokens : Type := (⟨3, ![4096, 8, 128]⟩ : Shape).Idx → EReal

/-- The gates' coefficients: one column for each gate. -/
abbrev Coeffs : Type := (⟨2, ![1024, 16]⟩ : Shape).Idx → EReal

/-- Gate `c` at a query: the logistic function of the query's channels (of all heads) against the gate's column. -/
def gate (q : Tokens) (W : Coeffs) (b : Fin 4) (l : Fin 1024) (c : Fin 16) : EReal :=
  Ideal.logistic (∑ e : Fin 1024, q (ix3 (row b l) (⟨e.1 / 128, by omega⟩ : Fin 8) (⟨e.1 % 128, by omega⟩ : Fin 128)) * W (ix2 e c))

/-- The result at token `l` of sequence `b`, head `h`, channel `d`. -/
def result (q k v u : Tokens) (W : Coeffs) (b : Fin 4) (l : Fin 1024) (h : Fin 8) (d : Fin 128) : EReal :=
  head (fun j d => k (ix3 (row b j) h d)) (fun j d => v (ix3 (row b j) h d)) (fun d => q (ix3 (row b l) h d)) (u (ix3 (row b l) h d))
    (gate q W b l ⟨h.1, by omega⟩) (gate q W b l ⟨h.1 + 8, by omega⟩) l d

/-- The result as an array. -/
def out (q k v u : Tokens) (W : Coeffs) : Tokens := fun i =>
  result q k v u W ⟨(i 0).1 / 1024, by have h : (i 0).1 < 4096 := (i 0).2; omega⟩ ⟨(i 0).1 % 1024, by omega⟩ (i 1) (i 2)

end Cert.Proof.Spec

end
-- ==== Proof.KernelBlock.lean ====
/- What the kernel's idealization writes at a grid point: the part of the result that belongs to the point's sequence. -/
module

public import proofs.«01_k».proof.Proof.Pieces
public import proofs.«01_k».proof.Proof.Result

@[expose] public section

set_option maxRecDepth 16384

noncomputable section

namespace Cert.Proof.KernelBlock

open Idealize.ShloMosaic Idealize.ShloMosaic.TcCoe Cert.KernelIdeal Cert.KernelIdeal.Gen Cert.Proof.Stages Cert.Proof.Spec Cert.Proof.Pieces

/-- The gates at an index. -/
theorem gates_apply (q : Vec Ideal S1x1024x1024 .f32) (W : Vec Ideal S1024x16 .f32) (l : Fin 1024) (c : Fin 16) :
    k0_pay2 (F := Ideal) q W (ix2 l c) = Ideal.logistic (∑ e : Fin 1024, q (ix3 0 l e) * W (ix2 e c)) := by
  pointwise [k0_pay2]

/-- A head's part of a block, at an index. -/
theorem part_apply (X : Vec Ideal S1x1024x1024 .f32) (o : Nat) (inb) (z : Fin 1) (l : Fin 1024) (d : Fin 128) (hd : o + d.1 < 1024) :
    part X o inb (ix3 z l d) = X (ix3 0 l ⟨o + d.1, hd⟩) := by
  unfold part
  refine View.ld_unit_apply_of X _ _ inb (ix3 z l d) (ix3 0 l ⟨o + d.1, hd⟩) fun a => ?_
  fin_cases a
  · show (0 : Nat) = 0 + z.1; omega
  · show l.1 = 0 + l.1; omega
  · rfl

section Blocks
variable (m : (ℓ : Loc nD τ sig) → Buf (Elt Ideal) ℓ) (c : Dev nD)

/-- The queries as launched. -/
abbrev qA : Tokens := m ((c : Thread nD τ).loc main_arg0)
/-- The keys as launched. -/
abbrev kA : Tokens := m ((c : Thread nD τ).loc main_arg1)
/-- The values as launched. -/
abbrev vA : Tokens := m ((c : Thread nD τ).loc main_arg2)
/-- The output gate as launched. -/
abbrev uA : Tokens := m ((c : Thread nD τ).loc main_arg3)
/-- The gates' coefficients as launched. -/
abbrev wA : Coeffs := m ((c : Thread nD τ).loc main_arg5)

/-- The sequence of a grid point. -/
abbrev seqOf (t : Fin cfg0.N) : Fin 4 := ⟨t.1, t.2⟩

/-- An array of tokens with its heads and channels side by side, as the kernel is given it. -/
abbrev wide (A : Tokens) : Vec Ideal S4x1024x1024 .f32 :=
  shapeCast S4x1024x1024 A shapeCasts_S4096x8x128_S4x1024x1024

/-- The channel of head `h` in the wide array. -/
abbrev col (h : Fin 8) (d : Fin 128) : Fin 1024 := ⟨128 * h.1 + d.1, by omega⟩

theorem wide_apply (A : Tokens) (b : Fin 4) (l e : Fin 1024) :
    wide A (ix3 b l e) = A (ix3 (row b l) (⟨e.1 / 128, by omega⟩ : Fin 8) (⟨e.1 % 128, by omega⟩ : Fin 128)) := by
  unfold wide
  pointwise
  blk_ext

theorem wide_col (A : Tokens) (b : Fin 4) (l : Fin 1024) (h : Fin 8) (d : Fin 128) : wide A (ix3 b l (col h d)) = A (ix3 (row b l) h d) := by
  rw [wide_apply]
  blk_ext

theorem entry0 : V m c main_v0 = wide (qA m c) := by
  unfold V V0 hostOps0
  simp only [List.flatten_cons, List.flatten_nil, List.append_nil]
  after_results
  rfl

theorem idx0 : ∀ t : Fin cfg0.N, win0_0.index t 0 = t.1 ∧ win0_0.index t 1 = 0 ∧ win0_0.index t 2 = 0 := by decide +kernel

theorem emb0 (t : Fin cfg0.N) (z : Fin 1) (l e : Fin 1024) : (win0_0.blk t).view.emb (ix3 z l e) = ix3 (seqOf t) l e := by
  blk_ext [idx0 t]

/-- Block `0` of a grid point is its sequence in the array of argument `0`. -/
theorem blk0 (t : Fin cfg0.N) (z : Fin 1) (l e : Fin 1024) : iblk m c 0 t (ix3 z l e) = wide (qA m c) (ix3 (seqOf t) l e) := by
  blk_simp [iblk]
  rw [entry0]
  exact congrArg (wide (qA m c)) (emb0 t z l e)

theorem entry1 : V m c main_v1 = wide (kA m c) := by
  unfold V V0 hostOps0
  simp only [List.flatten_cons, List.flatten_nil, List.append_nil]
  after_results
  rfl

theorem idx1 : ∀ t : Fin cfg0.N, win0_1.index t 0 = t.1 ∧ win0_1.index t 1 = 0 ∧ win0_1.index t 2 = 0 := by decide +kernel

theorem emb1 (t : Fin cfg0.N) (z : Fin 1) (l e : Fin 1024) : (win0_1.blk t).view.emb (ix3 z l e) = ix3 (seqOf t) l e := by
  blk_ext [idx1 t]

/-- Block `1` of a grid point is its sequence in the array of argument `1`. -/
theorem blk1 (t : Fin cfg0.N) (z : Fin 1) (l e : Fin 1024) : iblk m c 1 t (ix3 z l e) = wide (kA m c) (ix3 (seqOf t) l e) := by
  blk_simp [iblk]
  rw [entry1]
  exact congrArg (wide (kA m c)) (emb1 t z l e)

theorem entry2 : V m c main_v2 = wide (vA m c) := by
  unfold V V0 hostOps0
  simp only [List.flatten_cons, List.flatten_nil, List.append_nil]
  after_results
  rfl

theorem idx2 : ∀ t : Fin cfg0.N, win0_2.index t 0 = t.1 ∧ win0_2.index t 1 = 0 ∧ win0_2.index t 2 = 0 := by decide +kernel

theorem emb2 (t : Fin cfg0.N) (z : Fin 1) (l e : Fin 1024) : (win0_2.blk t).view.emb (ix3 z l e) = ix3 (seqOf t) l e := by
  blk_ext [idx2 t]

/-- Block `2` of a grid point is its sequence in the array of argument `2`. -/
theorem blk2 (t : Fin cfg0.N) (z : Fin 1) (l e : Fin 1024) : iblk m c 2 t (ix3 z l e) = wide (vA m c) (ix3 (seqOf t) l e) := by
  blk_simp [iblk]
  rw [entry2]
  exact congrArg (wide (vA m c)) (emb2 t z l e)

theorem entry3 : V m c main_v3 = wide (uA m c) := by
  unfold V V0 hostOps0
  simp only [List.flatten_cons, List.flatten_nil, List.append_nil]
  after_results
  rfl

theorem idx3 : ∀ t : Fin cfg0.N, win0_3.index t 0 = t.1 ∧ win0_3.index t 1 = 0 ∧ win0_3.index t 2 = 0 := by decide +kernel

theorem emb3 (t : Fin cfg0.N) (z : Fin 1) (l e : Fin 1024) : (win0_3.blk t).view.emb (ix3 z l e) = ix3 (seqOf t) l e := by
  blk_ext [idx3 t]

/-- Block `3` of a grid point is its sequence in the array of argument `3`. -/
theorem blk3 (t : Fin cfg0.N) (z : Fin 1) (l e : Fin 1024) : iblk m c 3 t (ix3 z l e) = wide (uA m c) (ix3 (seqOf t) l e) := by
  blk_simp [iblk]
  rw [entry3]
  exact congrArg (wide (uA m c)) (emb3 t z l e)

theorem idx4 : ∀ t : Fin cfg0.N, win0_4.index t 0 = 0 ∧ win0_4.index t 1 = 0 := by decide +kernel

/-- Block `4` of a grid point is the whole array of coefficients. -/
theorem blk4 (t : Fin cfg0.N) (e : Fin 1024) (g : Fin 16) : iblk m c 4 t (ix2 e g) = wA m c (ix2 e g) := by
  blk_ext [iblk, V_main_arg5, idx4 t]

/-- What the kernel leaves in its block at a grid point, at an index. -/
theorem block_apply (hk : ∀ i, kA m c i ≠ ⊤) (t : Fin cfg0.N) (y : S1x1024x1024.Idx) :
    outsAt0 m c t y = result (qA m c) (kA m c) (vA m c) (uA m c) (wA m c) (seqOf t) (y 1)
      ⟨(y 2).1 / 128, by have h : (y 2).1 < 1024 := (y 2).2; omega⟩ ⟨(y 2).1 % 128, by omega⟩ := by
  refine outsAt_of_heads m c t y _ fun h o inb ho x h1 h2 => ?_
  subst ho
  obtain ⟨z, l, d, rfl⟩ : ∃ (z : Fin 1) (l : Fin 1024) (d : Fin 128), x = ix3 z l d := ⟨x 0, x 1, x 2, by blk_ext⟩
  have h1' : (y 1).1 = l.1 := h1
  have h2' : (y 2).1 = 128 * h.1 + d.1 := h2
  have hl : y 1 = l := Fin.ext h1'
  have hh : (⟨(y 2).1 / 128, by have h : (y 2).1 < 1024 := (y 2).2; omega⟩ : Fin 8) = h := Fin.ext (by show (y 2).1 / 128 = h.1; omega)
  have hd : (⟨(y 2).1 % 128, by omega⟩ : Fin 128) = d := Fin.ext (by show (y 2).1 % 128 = d.1; omega)
  rw [hh, hd, hl]
  have hp : ∀ (X : Vec Ideal S1x1024x1024 .f32) (A : Tokens) (hX : ∀ l e, X (ix3 0 l e) = wide A (ix3 (seqOf t) l e)) (z : Fin 1) (l : Fin 1024) (d : Fin 128),
      part X (128 * h.1) inb (ix3 z l d) = A (ix3 (row (seqOf t) l) h d) := fun X A hX z l d => by
    rw [part_apply X _ inb z l d (by omega), hX]
    exact wide_col A (seqOf t) l h d
  have hg : ∀ (l : Fin 1024) (a : Fin 16), k0_pay2 (F := Ideal) (iblk m c 0 t) (iblk m c 4 t) (ix2 l a) = gate (qA m c) (wA m c) (seqOf t) l a :=
    fun l a => by
      rw [gates_apply]
      exact congrArg Ideal.logistic (Finset.sum_congr rfl fun e _ =>
        congrArg₂ (· * ·) ((blk0 m c t 0 l e).trans (wide_apply (qA m c) (seqOf t) l e)) (blk4 m c t e a))
  refine (headOut_apply _ _ _ _ _ ?_ ⟨h.1, by omega⟩ ⟨h.1 + 8, by omega⟩ z l d).trans ?_
  · intro i
    obtain ⟨z', l', d', rfl⟩ : ∃ (z : Fin 1) (l : Fin 1024) (d : Fin 128), i = ix3 z l d := ⟨i 0, i 1, i 2, by blk_ext⟩
    have h := hp _ (kA m c) (fun l e => blk1 m c t 0 l e) z' l' d'
    exact fun e => hk _ (h.symm.trans e)
  · unfold result
    exact congr (congr (congr (congr (congr (congr (congr (congrArg head
      (funext fun j => funext fun d => hp _ (kA m c) (fun l e => blk1 m c t 0 l e) 0 j d))
      (funext fun j => funext fun d => hp _ (vA m c) (fun l e => blk2 m c t 0 l e) 0 j d))
      (funext fun d => hp _ (qA m c) (fun l e => blk0 m c t 0 l e) 0 l d))
      (hp _ (uA m c) (fun l e => blk3 m c t 0 l e) 0 l d))
      (hg l ⟨h.1, by omega⟩)) (hg l ⟨h.1 + 8, by omega⟩)) rfl) rfl

end Blocks

end Cert.Proof.KernelBlock

end
-- ==== Proof.KernelValue.lean ====
/- What the kernel's idealization leaves in the array it returns. -/
module

public import proofs.«01_k».proof.Proof.KernelBlock

@[expose] public section

set_option maxRecDepth 16384

noncomputable section

namespace Cert.Proof.KernelValue

open Idealize.ShloMosaic Idealize.ShloMosaic.TcCoe Cert.KernelIdeal Cert.KernelIdeal.Gen Cert.Proof.Spec Cert.Proof.KernelBlock

variable (m : (ℓ : Loc nD τ sig) → Buf (Elt Ideal) ℓ) (c : Dev nD)

/-- The result with its heads and channels side by side, as the kernel writes it. -/
def wideOut : Vec Ideal S4x1024x1024 .f32 := fun i =>
  result (qA m c) (kA m c) (vA m c) (uA m c) (wA m c) (i 0) (i 1)
    ⟨(i 2).1 / 128, by have h : (i 2).1 < 1024 := (i 2).2; omega⟩ ⟨(i 2).1 % 128, by omega⟩

theorem idx5 : ∀ t : Fin cfg0.N, win0_5.index t 0 = t.1 ∧ win0_5.index t 1 = 0 ∧ win0_5.index t 2 = 0 := by decide +kernel

theorem emb5 (t : Fin cfg0.N) (y : S1x1024x1024.Idx) : (win0_5.blk t).view.emb y = ix3 (seqOf t) (y 1) (y 2) := by
  blk_ext [idx5 t]

/-- The array that the grid writes. -/
theorem array_eq (hk : ∀ i, kA m c i ≠ ⊤) : (dats m 0 c).arrAt 5 (cfgs 0).N = wideOut m c := by
  refine (dats m 0 c).arrAt_eq_of_covers 5 _ (by decide +kernel) fun t hf y => ?_
  blk_simp
  rw [after0_5]
  refine (block_apply m c hk t y).trans ?_
  exact (congrArg (wideOut m c) (emb5 t y)).symm

/-- The array that is returned: the written one, with heads and channels apart. -/
theorem tail_eq : Pipeline.afterTail₀ cfgs (dats m) 0 (V0 m) [hostOps1] c main_v5
    = shapeCast S4096x8x128 ((dats m 0 c).arrAt 5 (cfgs 0).N : Vec Ideal S4x1024x1024 .f32) shapeCasts_S4x1024x1024_S4096x8x128 := by
  unfold Pipeline.afterTail₀ hostOps1
  simp only [List.flatten_cons, List.flatten_nil, List.append_nil]
  after_results
  have h := Pipeline.withArrays_arr (τ := τ) spec0 (by decide) c (V0 m c) (fun w => (dats m 0 c).arrAt w (cfgs 0).N) 5
  exact congrArg (fun X : Vec Ideal S4x1024x1024 .f32 => shapeCast S4096x8x128 X shapeCasts_S4x1024x1024_S4096x8x128) h

theorem wideOut_back : shapeCast S4096x8x128 (wideOut m c) shapeCasts_S4x1024x1024_S4096x8x128
    = out (qA m c) (kA m c) (vA m c) (uA m c) (wA m c) := by
  funext i
  obtain ⟨r, h, d, rfl⟩ : ∃ (r : Fin 4096) (h : Fin 8) (d : Fin 128), i = ix3 r h d := ⟨i 0, i 1, i 2, by blk_ext⟩
  pointwise [out, wideOut]
  congr 1 <;> (apply Fin.ext; dsimp only; omega)

/-- The kernel's idealization runs, returns the result, and changes no argument. -/
theorem run (g) (hk : ∀ c i, kA m c i ≠ ⊤) :
    θ_run defs (onTc (τ := τ) (main (F := Ideal))) ⟨m, fun _ => 0, g⟩ (fun r => ∀ c : Dev nD,
      r.2.mem ((c.tc : Thread nD τ).loc main_v5) = out (qA m c) (kA m c) (vA m c) (uA m c) (wA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨?_, h.2 c⟩) (θ_run_and (run_main m g) (unchanged m g))
  rw [(h.1 c).2 main_v5 (by decide), tail_eq, array_eq m c (hk c), wideOut_back]

end Cert.Proof.KernelValue

end
-- ==== Proof.RefStages.lean ====
/- The reference's stages, each at an index. -/
module

public import proofs.«01_k».proof.Proof.Result
public import proofs.«01_k».proof.Proof.Words
public import proofs.«01_k».proof.Proof.Gen.ReferenceIdeal.Read
public import Idealize.ShloMosaic.Lib.Pipeline.ValueKit

@[expose] public section

set_option maxRecDepth 16384

noncomputable section

namespace Cert.Proof.RefStages

open Idealize.ShloMosaic Cert.ReferenceIdeal Cert.ReferenceIdeal.Gen Cert.ReferenceIdeal.Read Cert.Proof.Select Cert.Proof.Spec Cert.Proof.Words

theorem q_apply (x : Tokens) (b : Fin 4) (l : Fin 1024) (h : Fin 8) (d : Fin 128) :
    val_main_v1 (F := Ideal) x (ix4 b l h d) = x (ix3 (row b l) h d) := by
  pointwise [val_main_v1]
  blk_ext

theorem k_apply (x : Tokens) (b : Fin 4) (l : Fin 1024) (h : Fin 8) (d : Fin 128) :
    val_main_v2 (F := Ideal) x (ix4 b l h d) = x (ix3 (row b l) h d) := q_apply x b l h d

theorem v_apply (x : Tokens) (b : Fin 4) (l : Fin 1024) (h : Fin 8) (d : Fin 128) :
    val_main_v3 (F := Ideal) x (ix4 b l h d) = x (ix3 (row b l) h d) := q_apply x b l h d

/-- The root the scores are divided by. -/
theorem root_apply (i : S_.Idx) : val_main_v0 (F := Ideal) i = unscale := by
  rw [val_main_v0_apply, val_main_cst_apply]
  show Ideal.sqrt (Ideal.ofBits .f32 0x43000000#32) = _
  have h : Ideal.ofBits .f32 0x43000000#32 = ((128 : ℝ) : EReal) := by
    simp [Ideal.ofBits, Ideal.ieee, -EReal.coe_mul]; norm_num
  rw [h, Ideal.sqrt_coe, if_neg (by norm_num)]

theorem div_root (x : EReal) : Ideal.div x unscale = x * scale := by
  have h : Real.sqrt 128 ≠ 0 := by positivity
  rw [Ideal.div_coe h, one_div]

theorem gates_apply (q : Tokens) (W : Coeffs) (b : Fin 4) (l : Fin 1024) (c : Fin 16) :
    val_main_v11 (F := Ideal) q W (ix3 b l c) = gate q W b l c := by
  pointwise [val_main_v11, val_main_v10, val_main_v9, val_main_v8, val_main_v7, val_main_v6, val_main_v5, val_main_v4, val_main_v1, val_main_cst_0, val_main_cst_1]
  unfold gate Ideal.logistic
  simp only [row, Nat.mul_comm]

theorem meanK_apply (k : Tokens) (b : Fin 4) (n : Fin 32) (h : Fin 8) (d : Fin 128) :
    val_main_v17 (F := Ideal) k (ix4 b n h d) = mean (fun j => k (ix3 (row b j) h d)) n := by
  pointwise [val_main_v17, val_main_v16, val_main_v15, val_main_v14, val_main_v2, val_main_cst_2, val_main_cst_3]
  rw [ofBits_thirtytwo, Ideal.div_coe (by norm_num)]
  unfold mean
  refine congrArg (· * _) (Finset.sum_congr rfl fun i _ => ?_)
  blk_ext

theorem meanV_apply (v : Tokens) (b : Fin 4) (n : Fin 32) (h : Fin 8) (d : Fin 128) :
    val_main_v21 (F := Ideal) v (ix4 b n h d) = mean (fun j => v (ix3 (row b j) h d)) n := meanK_apply v b n h d

theorem score_apply (q k : Tokens) (b : Fin 4) (l : Fin 1024) (h : Fin 8) (n : Fin 32) :
    val_main_v25 (F := Ideal) q k (ix4 b l h n) = score (fun d => mean (fun j => k (ix3 (row b j) h d)) n) (fun d => q (ix3 (row b l) h d)) := by
  pointwise [val_main_v25, val_main_v24, val_main_v23, val_main_v22]
  simp only [root_apply, div_root, meanK_apply, q_apply]
  rfl

theorem scoreTok_apply (q k : Tokens) (b : Fin 4) (l : Fin 1024) (h : Fin 8) (j : Fin 1024) :
    val_main_v76 (F := Ideal) q k (ix4 b l h j) = score (fun d => k (ix3 (row b j) h d)) (fun d => q (ix3 (row b l) h d)) := by
  pointwise [val_main_v76, val_main_v75, val_main_v74, val_main_v73]
  simp only [root_apply, div_root, k_apply, q_apply]
  rfl

/-- The block of a query, as a word. -/
theorem qblk_apply (l : Fin 1024) (z : Fin 1) : val_main_v28 (F := Ideal) (ix2 l z) = BitVec.ofNat 32 (blk l).1 := by
  pointwise [val_main_v28, val_main_call0_v13, val_main_call0_v12, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_c, val_main_call0_c_0, val_main_c, val_main_v27, val_main_v26]
  revert l
  decide +kernel

theorem logistic_eq (x : EReal) : Ideal.logistic x = Ideal.div 1 (1 + Ideal.exp (-x)) := rfl

theorem small (n : Fin 32) : n.1 < 2 ^ 31 := by omega
theorem small' (n : Fin 1024) : n.1 < 2 ^ 31 := by omega
theorem block_lt (l : Fin 1024) : l.1 / 32 < 2 ^ 31 := by omega

theorem zero_const : constant (F := Ideal) S_ FTy.f32 0x00000000#32 ix0 = (0 : EReal) := by
  show Ideal.ofBits .f32 0x00000000#32 = 0
  simp [Ideal.ofBits, Ideal.ieee]

theorem one_const : constant (F := Ideal) S_ FTy.f32 0x3F800000#32 ix0 = (1 : EReal) := by
  show Ideal.ofBits .f32 0x3F800000#32 = 1
  simp [Ideal.ofBits, Ideal.ieee, -EReal.coe_mul]
  norm_num

/-- The activation of a score or zero is the score's activation or zero. -/
theorem apply_causal (P : Prop) [Decidable P] (s : EReal) :
    (if P then s else 0) * Ideal.logistic (if P then s else 0) * unscale = if P then act s else 0 := by
  split_ifs
  · rfl
  · exact act_zero

theorem sel_apply (q k : Tokens) (b : Fin 4) (l : Fin 1024) (h : Fin 8) (n : Fin 32) :
    val_main_v44 (F := Ideal) q k (ix4 b l h n)
      = blockWeight (fun j d => k (ix3 (row b j) h d)) (fun d => q (ix3 (row b l) h d)) l n := by
  pointwise [val_main_v44, val_main_v43, val_main_v42, val_main_v41, val_main_v40, val_main_v39, val_main_v38, val_main_v37, val_main_v36, val_main_v35, val_main_call1_v2, val_main_call1_v1, val_main_call1_v0,
    val_main_v34, val_main_v33, val_main_v32, val_main_v31, val_main_v30, val_main_v29, val_main_cst_6, val_main_cst_7, val_main_cst_8]
  simp only [root_apply, score_apply, qblk_apply]
  simp only [← logistic_eq, id_eq, select_sge (block_lt l) (small n), zero_const]
  unfold blockWeight
  rw [apply_causal]
  rfl

theorem pcmp_apply (q k : Tokens) (b : Fin 4) (l : Fin 1024) (h : Fin 8) (n : Fin 32) :
    val_main_v63 (F := Ideal) q k (ix4 b l h n)
      = blockWeight (fun j d => k (ix3 (row b j) h d)) (fun d => q (ix3 (row b l) h d)) l n := by
  pointwise [val_main_v63, val_main_v62, val_main_v61, val_main_v60, val_main_v59, val_main_v58, val_main_v57, val_main_v56, val_main_v55, val_main_v54, val_main_call3_v2, val_main_call3_v1, val_main_call3_v0,
    val_main_v53, val_main_v33, val_main_v32, val_main_v31, val_main_v30, val_main_v29, val_main_cst_10, val_main_cst_11, val_main_cst_12]
  simp only [root_apply, score_apply, qblk_apply]
  simp only [← logistic_eq, id_eq, select_sge (block_lt l) (small n), zero_const]
  rfl

theorem pslc_apply (q k : Tokens) (b : Fin 4) (l : Fin 1024) (h : Fin 8) (j : Fin 1024) :
    val_main_v94 (F := Ideal) q k (ix4 b l h j)
      = tokenWeight (fun j d => k (ix3 (row b j) h d)) (fun d => q (ix3 (row b l) h d)) l j := by
  pointwise [val_main_v94, val_main_v93, val_main_v92, val_main_v91, val_main_v90, val_main_v89, val_main_v88, val_main_v87, val_main_v86, val_main_v85, val_main_call5_v2, val_main_call5_v1, val_main_call5_v0,
    val_main_v84, val_main_v83, val_main_v82, val_main_v81, val_main_v80, val_main_v79, val_main_v78, val_main_v77, val_main_cst_14, val_main_cst_15, val_main_cst_16]
  simp only [root_apply, scoreTok_apply]
  simp only [← logistic_eq, id_eq, select_sge (small' l) (small' j), zero_const]
  rfl

theorem key_apply (q k : Tokens) (b : Fin 4) (l : Fin 1024) (h : Fin 8) (n : Fin 32) :
    val_main_v49 (F := Ideal) q k (ix4 b l h n)
      = blockKey (fun j d => k (ix3 (row b j) h d)) (fun d => q (ix3 (row b l) h d)) l n := by
  pointwise [val_main_v49, val_main_call2_v2, val_main_call2_v1, val_main_call2_v0, val_main_v48, val_main_v47, val_main_v46, val_main_v45, val_main_v30, val_main_v29, val_main_cst_9]
  simp only [sel_apply, qblk_apply]
  rw [select_eq]
  simp only [id_eq, one_const]
  unfold blockKey
  have h : (BitVec.ofNat 32 (l.1 / 32) = BitVec.ofNat 32 n.1) = (blk l = n) := by
    rw [ofNat_inj (by omega) (by omega), Fin.ext_iff]
  simp only [h]

end Cert.Proof.RefStages

end
-- ==== Proof.RefSelect.lean ====
/- The reference's selected blocks and how often each counts. -/
module

public import proofs.«01_k».proof.Proof.RefStages
public import proofs.«01_k».proof.Proof.Select

@[expose] public section

set_option maxRecDepth 16384

noncomputable section

namespace Cert.Proof.RefSelect

open Idealize.ShloMosaic Cert.ReferenceIdeal Cert.ReferenceIdeal.Gen Cert.ReferenceIdeal.Read Cert.Proof.Select Cert.Proof.Spec Cert.Proof.Words
open Cert.Proof.RefStages

/-- An index of a leading part, in the whole. -/
def widen {s t : Shape} (hs : s.Slices (fun _ => 0) t) (i : t.Idx) : s.Idx := fun a =>
  ⟨0 + (i (a.cast hs.1.symm)).1, Nat.lt_of_lt_of_le (Nat.add_lt_add_left (Fin.isLt _) _) (hs.2 a)⟩

/-- The words `topK` writes are the positions the sort of the row puts there. -/
theorem topK_snd {α : Type} {s t : Shape} (D : Nat) (hD : D < s.rank) (gt : α → α → BitVec 1) (x : s.Idx → α)
    (hs : s.Slices (fun _ => 0) t) (i : t.Idx) :
    (Host.topK t D gt x hs).2 i
      = BitVec.ofNat 32 (sortedFrom (fun n n' => gt (x ((widen hs i).along ⟨D, hD⟩ n)) (x ((widen hs i).along ⟨D, hD⟩ n')) == 1#1)
          (widen hs i ⟨D, hD⟩)).1 := by
  unfold Host.topK Host.sort2
  simp only [dif_pos hD]
  unfold extractStridedSlice iotaInDim
  show BitVec.ofNat 32 (Shape.Idx.along _ _ _ _).1 = _
  unfold Shape.Idx.along
  rw [Function.update_self]
  rfl

theorem widen_apply (b : Fin 4) (l : Fin 1024) (h : Fin 8) (p : Fin 4) (P : Fin 32) (hp : P.1 = p.1) :
    widen sliceFits_S4x1024x8x32_S4x1024x8x4 (ix4 b l h p) = (ix4 b l h P : S4x1024x8x32.Idx) := by
  funext a
  match a with
  | 0 => exact Fin.ext (Nat.zero_add _)
  | 1 => exact Fin.ext (Nat.zero_add _)
  | 2 => exact Fin.ext (Nat.zero_add _)
  | 3 => exact Fin.ext ((Nat.zero_add _).trans hp.symm)

theorem along_last (b : Fin 4) (l : Fin 1024) (h : Fin 8) (p n : Fin 32) :
    (ix4 b l h p : S4x1024x8x32.Idx).along 3 n = ix4 b l h n := by
  funext a
  match a with
  | 0 => rfl
  | 1 => rfl
  | 2 => rfl
  | 3 => rfl

/-- The order of the sort is the order of the keys. -/
theorem before_iff (x y : EReal) : (FloatOps.cmpfTotal (F := Ideal) (φ := .f32) .gt x y == 1#1) = decide (y < x) := by
  show (BitVec.ofBool (decide (y < x)) == 1#1) = _
  by_cases q : y < x <;> simp [q]

/-- Entry `p` of the four greatest of a row: the position the sort by the keys puts there. -/
theorem topK_word (x : S4x1024x8x32.Idx → EReal) (w : Fin 32 → EReal) (b : Fin 4) (l : Fin 1024) (h : Fin 8) (p : Fin 4) (P : Fin 32)
    (hp : P.1 = p.1) (hx : ∀ n, x (ix4 b l h n) = w n) :
    (Host.topK S4x1024x8x4 3 (FloatOps.cmpfTotal (F := Ideal) (φ := .f32) .gt) x sliceFits_S4x1024x8x32_S4x1024x8x4).2 (ix4 b l h p)
      = BitVec.ofNat 32 (sortedFrom (fun n n' : Fin 32 => decide (w n' < w n)) P).1 := by
  refine (topK_snd 3 (by decide) _ x _ _).trans ?_
  rw [widen_apply b l h p P hp]
  have r : (fun n n' : Fin 32 => FloatOps.cmpfTotal (F := Ideal) (φ := .f32) .gt (x ((ix4 b l h P : S4x1024x8x32.Idx).along 3 n)) (x ((ix4 b l h P : S4x1024x8x32.Idx).along 3 n')) == 1#1)
      = fun n n' => decide (w n' < w n) := by
    funext n n'
    rw [along_last, along_last, hx, hx, before_iff]
  exact congrArg (fun R : Fin 32 → Fin 32 → Bool => BitVec.ofNat 32 (sortedFrom R P).1) r

/-- The keys of the row of queries. -/
abbrev keys (q k : Tokens) (b : Fin 4) (l : Fin 1024) (h : Fin 8) : Fin 32 → EReal :=
  blockKey (fun j d => k (ix3 (row b j) h d)) (fun d => q (ix3 (row b l) h d)) l

/-- The four selected blocks, as words: the first and the third, each twice. -/
theorem chosen_apply (q k : Tokens) (b : Fin 4) (l : Fin 1024) (h : Fin 8) (p : Fin 4) :
    val_main_v52 (F := Ideal) q k (ix4 b l h p)
      = BitVec.ofNat 32 (if p.1 < 2 then pick0 (keys q k b l h) else pick2 (keys q k b l h)).1 := by
  have W : ∀ i : Fin 3, val_main_indices (F := Ideal) q k (ix4 b l h (i.castLE (by decide)))
      = BitVec.ofNat 32 (![pick0 (keys q k b l h), pick1 (keys q k b l h), pick2 (keys q k b l h)] i).1 := by
    intro i
    unfold val_main_indices
    rw [topK_word _ (keys q k b l h) b l h _ (i.castLE (by decide)) rfl (fun n => key_apply q k b l h n),
      ← sortedFrom_eq_picks (keys q k b l h) (fun n => blockKey_ne_bot _ _ l n) i]
  have S : ∀ i : Fin 2, val_main_v50 (F := Ideal) q k (ix4 b l h i) = val_main_indices (F := Ideal) q k (ix4 b l h ⟨2 * i.1, by omega⟩) := by
    intro i
    unfold val_main_v50 Host.slice
    congr 1
    funext a
    match a with
    | 0 => exact Fin.ext (by simp [ix4])
    | 1 => exact Fin.ext (by simp [ix4])
    | 2 => exact Fin.ext (by simp [ix4])
    | 3 => exact Fin.ext (by simp [ix4])
  pointwise [val_main_v52, val_main_v51]
  rw [S]
  have hp : p.1 < 4 := p.2
  by_cases c : p.1 < 2
  · rw [if_pos c]
    refine (congrArg (fun z => val_main_indices (F := Ideal) q k (ix4 b l h z)) (Fin.ext ?_)).trans (W 0)
    show 2 * (p.1 / 2) = 0
    omega
  · rw [if_neg c]
    refine (congrArg (fun z => val_main_indices (F := Ideal) q k (ix4 b l h z)) (Fin.ext ?_)).trans (W 2)
    show 2 * (p.1 / 2) = 2
    omega

/-- The equality of two words as a float: one or zero. -/
theorem onehot' (x y : BitVec 32) :
    (FloatOps.uitofp FTy.f32 (IntOp.cmpi CmpIPredicate.eq x y) : Ideal .f32) = if x = y then (1 : EReal) else 0 := by
  show (((IntOp.cmpi CmpIPredicate.eq x y).toNat : ℝ) : EReal) = _
  unfold IntOp.cmpi
  by_cases h : x = y
  · simp [h]
  · have hb : (x == y) = false := by simpa using h
    simp [hb, h]

theorem mult_apply (q k : Tokens) (b : Fin 4) (l : Fin 1024) (h : Fin 8) (n : Fin 32) :
    val_main_v70 (F := Ideal) q k (ix4 b l h n) = mult (keys q k b l h) n := by
  pointwise [val_main_v70, val_main_v69, val_main_call4_v4, val_main_call4_v3, val_main_call4_v2, val_main_call4_v1, val_main_call4_v0, val_main_cst_13]
  simp only [chosen_apply, onehot']
  have hn (m : Fin 32) : (BitVec.ofNat 32 m.1 = BitVec.ofNat 32 n.1) = (n = m) := by
    rw [ofNat_inj (by omega) (by omega), Fin.ext_iff]
    exact propext eq_comm
  simp only [hn, Fin.sum_univ_four]
  unfold mult
  show ((if n = pick0 (keys q k b l h) then (1 : EReal) else 0) + (if n = pick0 (keys q k b l h) then 1 else 0)
    + (if n = pick2 (keys q k b l h) then 1 else 0)) + (if n = pick2 (keys q k b l h) then 1 else 0) = _
  split_ifs <;> norm_num
  exact_mod_cast (by norm_num : (4 : ℝ) = 2 * 2)

theorem multTok_apply (q k : Tokens) (b : Fin 4) (l : Fin 1024) (h : Fin 8) (j : Fin 1024) :
    val_main_v72 (F := Ideal) q k (ix4 b l h j) = mult (keys q k b l h) (blk j) := by
  pointwise [val_main_v72, val_main_v71]
  exact mult_apply q k b l h (blk j)

end Cert.Proof.RefSelect
-- ==== Proof.RefValue.lean ====
/- The reference's result. -/
module

public import proofs.«01_k».proof.Proof.RefSelect

@[expose] public section

set_option maxRecDepth 16384

noncomputable section

namespace Cert.Proof.RefValue

open Idealize.ShloMosaic Cert.ReferenceIdeal Cert.ReferenceIdeal.Gen Cert.ReferenceIdeal.Read Cert.Proof.Select Cert.Proof.Spec Cert.Proof.Words
open Cert.Proof.RefStages Cert.Proof.RefSelect

theorem compressed_apply (q k v : Tokens) (W : Coeffs) (b : Fin 4) (l : Fin 1024) (h : Fin 8) (d : Fin 128) :
    val_main_v68 (F := Ideal) q k v W (ix4 b l h d)
      = (∑ n, blockWeight (fun j d => k (ix3 (row b j) h d)) (fun d => q (ix3 (row b l) h d)) l n * mean (fun j => v (ix3 (row b j) h d)) n)
        * gate q W b l ⟨h.1, by omega⟩ := by
  pointwise [val_main_v68, val_main_v67, val_main_v66, val_main_v65, val_main_v64, val_main_v12]
  simp only [meanV_apply, pcmp_apply, gates_apply, mul_comm (mean _ _)]

/-- The weight of the key at `j`, as often as its block counts. -/
theorem weight_apply (q k : Tokens) (b : Fin 4) (l : Fin 1024) (h : Fin 8) (j : Fin 1024) :
    val_main_v95 (F := Ideal) q k (ix4 b l h j)
      = tokenWeight (fun j d => k (ix3 (row b j) h d)) (fun d => q (ix3 (row b l) h d)) l j * mult (keys q k b l h) (blk j) := by
  rw [val_main_v95_apply, pslc_apply, multTok_apply]
  rfl

/-- The sum over the keys, before the gate. -/
theorem sum_apply (q k v : Tokens) (b : Fin 4) (l : Fin 1024) (h : Fin 8) (d : Fin 128) :
    val_main_v97 (F := Ideal) q k v (ix4 b l h d)
      = ∑ j, val_main_v3 (F := Ideal) v (ix4 b j h d) * val_main_v95 (F := Ideal) q k (ix4 b l h j) := by
  pointwise [val_main_v97, val_main_v96]

theorem selectedSum_apply (q k v : Tokens) (b : Fin 4) (l : Fin 1024) (h : Fin 8) (d : Fin 128) :
    val_main_v97 (F := Ideal) q k v (ix4 b l h d)
      = ∑ j, tokenWeight (fun j d => k (ix3 (row b j) h d)) (fun d => q (ix3 (row b l) h d)) l j * mult (keys q k b l h) (blk j) * v (ix3 (row b j) h d) := by
  rw [sum_apply]
  exact Finset.sum_congr rfl fun j _ => by rw [v_apply, weight_apply, mul_comm]

theorem selected_apply (q k v : Tokens) (W : Coeffs) (b : Fin 4) (l : Fin 1024) (h : Fin 8) (d : Fin 128) :
    val_main_v100 (F := Ideal) q k v W (ix4 b l h d)
      = gate q W b l ⟨h.1 + 8, by omega⟩
        * ∑ j, tokenWeight (fun j d => k (ix3 (row b j) h d)) (fun d => q (ix3 (row b l) h d)) l j * mult (keys q k b l h) (blk j) * v (ix3 (row b j) h d) := by
  pointwise [val_main_v100, val_main_v99, val_main_v98, val_main_v13]
  rw [selectedSum_apply, gates_apply]
  simp only [Nat.add_comm 8]

end Cert.Proof.RefValue
-- ==== Proof.RefOut.lean ====
/- The reference's result. -/
module

public import proofs.«01_k».proof.Proof.RefValue

@[expose] public section

set_option maxRecDepth 16384

noncomputable section

namespace Cert.Proof.RefOut

open Idealize.ShloMosaic Cert.ReferenceIdeal Cert.ReferenceIdeal.Gen Cert.ReferenceIdeal.Read Cert.Proof.Select Cert.Proof.Spec Cert.Proof.Words
open Cert.Proof.RefStages Cert.Proof.RefSelect Cert.Proof.RefValue

/-- The common result at a row of queries. -/
theorem out_row (q k v u : Tokens) (W : Coeffs) (b : Fin 4) (l : Fin 1024) (h : Fin 8) (d : Fin 128) :
    out q k v u W (ix3 (row b l) h d) = result q k v u W b l h d := by
  have hb : (⟨(row b l).1 / 1024, by have := (row b l).2; omega⟩ : Fin 4) = b := Fin.ext (by show (1024 * b.1 + l.1) / 1024 = b.1; omega)
  have hl : (⟨(row b l).1 % 1024, Nat.mod_lt _ (by decide)⟩ : Fin 1024) = l := Fin.ext (by show (1024 * b.1 + l.1) % 1024 = l.1; omega)
  show result q k v u W ⟨(row b l).1 / 1024, _⟩ ⟨(row b l).1 % 1024, _⟩ h d = _
  rw [hb, hl]

theorem v103_row (q k v u : Tokens) (W : Coeffs) (b : Fin 4) (l : Fin 1024) (h : Fin 8) (d : Fin 128) :
    val_main_v103 (F := Ideal) q k v u W (ix3 (row b l) h d)
      = u (ix3 (row b l) h d) * (val_main_v68 (F := Ideal) q k v W (ix4 b l h d) + val_main_v100 (F := Ideal) q k v W (ix4 b l h d)) := by
  have hb : (⟨(row b l).1 / 1024, by have := (row b l).2; omega⟩ : Fin 4) = b := Fin.ext (by show (1024 * b.1 + l.1) / 1024 = b.1; omega)
  have hl : (⟨(row b l).1 % 1024, Nat.mod_lt _ (by decide)⟩ : Fin 1024) = l := Fin.ext (by show (1024 * b.1 + l.1) % 1024 = l.1; omega)
  pointwise [val_main_v103, val_main_v102, val_main_v101]
  rw [hb, hl]

/-- The reference computes the common result. -/
theorem ref_out (q k v u : Tokens) (W : Coeffs) :
    val_main_v103 (F := Ideal) q k v u W = out q k v u W := by
  funext i
  obtain ⟨b, l, h, d, rfl⟩ : ∃ (b : Fin 4) (l : Fin 1024) (h : Fin 8) (d : Fin 128), i = ix3 (row b l) h d :=
    ⟨⟨(i 0).1 / 1024, by have : (i 0).1 < 4096 := (i 0).2; omega⟩, ⟨(i 0).1 % 1024, Nat.mod_lt _ (by decide)⟩, i 1, i 2, by
      funext a
      match a with
      | 0 => exact Fin.ext (by show (i 0).1 = 1024 * ((i 0).1 / 1024) + (i 0).1 % 1024; omega)
      | 1 => rfl
      | 2 => rfl⟩
  rw [v103_row, out_row, compressed_apply, selected_apply]
  rfl

end Cert.Proof.RefOut
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.BelowInf
public import proofs.«01_k».proof.Proof.KernelValue
public import proofs.«01_k».proof.Proof.RefOut
public import Idealize.ShloMosaic.Adequacy
public import Idealize.ShloMosaic.Init

@[expose] public section

noncomputable section

namespace Cert.Proof

open Idealize.ShloMosaic Idealize.SL.Sem

/-- The kernel runs, nothing faulting, its arguments and semaphores as they were: the generated frame. -/
theorem quiescent_Kernel : @Cert.quiescent_Kernel Cert.Kernel.Gen.facts :=
  fun m g _ => Cert.Kernel.Gen.frame m g

/-- The same of the kernel over the extended reals. -/
theorem quiescent_KernelIdeal : @Cert.quiescent_KernelIdeal Cert.KernelIdeal.Gen.facts :=
  fun m g _ => Cert.KernelIdeal.Gen.frame m g

/-- Each literal that is given a name is the real number of that name, rounded. -/
theorem preserves : Cert.preserves_Kernel_KernelIdeal :=
  ⟨IdealRules.named_const.statement Cert.KernelIdeal.κ "inv_sqrt_d" .f32 0x3DB504F3#32 (((Real.sqrt 128)⁻¹ : ℝ) : EReal) rfl,
    IdealRules.named_const.statement Cert.KernelIdeal.κ "sqrt_d" .f32 0x413504F3#32 ((Real.sqrt 128 : ℝ) : EReal) rfl,
    IdealRules.named_const.statement Cert.KernelIdeal.κ "mask" .f32 0xF149F2CA#32 ⊥ rfl⟩

/-- The same of the reference. -/
theorem quiescent_ReferenceIdeal : @Cert.quiescent_ReferenceIdeal Cert.ReferenceIdeal.Gen.facts :=
  fun m g _ => (θ_run _ _ _).mono (fun _ h => ⟨fun c => (h c).2, funext fun s => nomatch s⟩)
    (Cert.ReferenceIdeal.Value.run (F := Ideal) m g)

/-- Under the precondition, the kernel's idealization and the reference return the same array from the same arguments. -/
theorem algebraic : @Cert.algebraic_KernelIdeal_ReferenceIdeal_pre_k_below_inf Cert.KernelIdeal.Gen.facts Cert.ReferenceIdeal.Gen.facts BelowInf.facts := by
  intro m g m' g' hpre hargs
  refine ⟨fun c => Spec.out (KernelBlock.qA m c) (KernelBlock.kA m c) (KernelBlock.vA m c) (KernelBlock.uA m c) (KernelBlock.wA m c),
    KernelValue.run m g (BelowInf.k_ne_top m hpre), ?_⟩
  refine (θ_run _ _ _).mono (fun r h c => ⟨?_, (h c).2⟩) (Cert.ReferenceIdeal.Value.run (F := Ideal) m' g')
  obtain ⟨e0, e1, e2, e3, _, e5⟩ := hargs c
  rw [(h c).1, Cert.ReferenceIdeal.Read.val_main_v103_eq, e0, e1, e2, e3, e5]
  exact RefOut.ref_out _ _ _ _ _

theorem claim : Cert.Claim :=
  ⟨Cert.Kernel.Gen.facts, Cert.KernelIdeal.Gen.facts, Cert.ReferenceIdeal.Gen.facts, BelowInf.facts, quiescent_Kernel,
    quiescent_KernelIdeal, fun m g _ => Cert.KernelIdeal.Gen.frame m g, quiescent_ReferenceIdeal,
    fun m g _ => quiescent_ReferenceIdeal m g trivial, preserves, algebraic⟩

end Cert.Proof

end
